-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S4096x512 : Shape := ⟨2, ![4096, 512]⟩
abbrev S512x512 : Shape := ⟨2, ![512, 512]⟩
abbrev S192x512 : Shape := ⟨2, ![192, 512]⟩
abbrev S11 : Shape := ⟨1, ![11]⟩
abbrev S10 : Shape := ⟨1, ![10]⟩
abbrev S_ : Shape := ⟨0, ![]⟩
abbrev S1 : Shape := ⟨1, ![1]⟩
abbrev S64x512 : Shape := ⟨2, ![64, 512]⟩

abbrev nBuf : Space → Nat
  | .hbm => 2
  | .vmem => 4
  | .smem => 0
  | _ => 0

abbrev bufTy : (tb : Table) → Fin (tcTables nBuf tb) → BufTy
  | .hbm, ⟨0, _⟩ => ⟨S2048x512, .bf16⟩
  | .hbm, ⟨1, _⟩ => ⟨S4096x512, .bf16⟩
  | .local _ .vmem, ⟨0, _⟩ => ⟨S2048x512, .bf16⟩
  | .local _ .vmem, ⟨1, _⟩ => ⟨S4096x512, .bf16⟩
  | .local _ .vmem, ⟨2, _⟩ => ⟨S512x512, .bf16⟩
  | .local _ .vmem, ⟨3, _⟩ => ⟨S192x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_13 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_12 : BitVec 32 := 8#32
  let v25 : BitVec 32 := Scalar.muli v19 c8_i32_12
  let v26 : BitVec 32 := Scalar.addi c0_i32_13 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v27 : BitVec 32 := Scalar.muli v5 c4_i32_14
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v29 : BitVec 32 := Scalar.muli v8 c1_i32_15
  let v30 : BitVec 32 := Scalar.addi v28 v29
  v30.toNat
def k0_dev2 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v31 : BitVec 32 := Scalar.muli v2 c8_i32_17
  let v32 : BitVec 32 := Scalar.addi c0_i32_18 v31
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_19 : BitVec 32 := 4#32
  let v33 : BitVec 32 := Scalar.muli v20 c4_i32_19
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v35 : BitVec 32 := Scalar.muli v8 c1_i32_20
  let v36 : BitVec 32 := Scalar.addi v34 v35
  v36.toNat
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v37 : BitVec 32 := Scalar.muli v2 c8_i32_22
  let v38 : BitVec 32 := Scalar.addi c0_i32_23 v37
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v39 : BitVec 32 := Scalar.muli v5 c4_i32_24
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_25 : BitVec 32 := 1#32
  let v41 : BitVec 32 := Scalar.muli v23 c1_i32_25
  let v42 : BitVec 32 := Scalar.addi v40 v41
  v42.toNat
def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v43 : BitVec 32 := Scalar.muli v5 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32 : BitVec 32 := 512#32
  let v44 : BitVec 32 := Scalar.muli v18 c512_i32
  let v45 : BitVec 32 := Scalar.addi v43 v44
  let v46 : Index := Scalar.indexCast v45
  let c0 : Index := 0#32
  ![v46.toNat, 0]
def k0_off2 (d0 : Dev nD) : Fin 2 → Nat :=
  let c1_i32_28 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v52 : BitVec 32 := Scalar.subi c1_i32_28 v5
  let c1024_i32_29 : BitVec 32 := 1024#32
  let v53 : BitVec 32 := Scalar.muli v52 c1024_i32_29
  let c1_i32_30 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v54 : BitVec 32 := Scalar.subi c1_i32_30 v18
  let c512_i32_31 : BitVec 32 := 512#32
  let v55 : BitVec 32 := Scalar.muli v54 c512_i32_31
  let v56 : BitVec 32 := Scalar.addi v53 v55
  let v57 : Index := Scalar.indexCast v56
  let c0_32 : Index := 0#32
  ![v57.toNat, 0]
def k0_off3 (d0 : Dev nD) (c0_i32_52 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_44 : BitVec 32 := 2048#32
  let v79 : BitVec 32 := Scalar.muli v2 c2048_i32_44
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_45 : BitVec 32 := 1024#32
  let v80 : BitVec 32 := Scalar.muli v5 c1024_i32_45
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_46 : BitVec 32 := 512#32
  let v82 : BitVec 32 := Scalar.muli v18 c512_i32_46
  let v83 : BitVec 32 := Scalar.addi v81 v82
  let v91 : BitVec 32 := Scalar.addi v83 c0_i32_52
  let c0_i32_59 : BitVec 32 := 0#32
  ![v91.toNat, 0]
def k0_dev4 (d0 : Dev nD) : Nat :=
  let c0_i32_56 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_55 : BitVec 32 := 8#32
  let v92 : BitVec 32 := Scalar.muli v19 c8_i32_55
  let v93 : BitVec 32 := Scalar.addi c0_i32_56 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_57 : BitVec 32 := 4#32
  let v94 : BitVec 32 := Scalar.muli v5 c4_i32_57
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v96 : BitVec 32 := Scalar.muli v8 c1_i32_58
  let v97 : BitVec 32 := Scalar.addi v95 v96
  v97.toNat
def k0_dev5 (d0 : Dev nD) : Nat :=
  let c0_i32_65 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_64 : BitVec 32 := 8#32
  let v105 : BitVec 32 := Scalar.muli v19 c8_i32_64
  let v106 : BitVec 32 := Scalar.addi c0_i32_65 v105
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_66 : BitVec 32 := 4#32
  let v107 : BitVec 32 := Scalar.muli v5 c4_i32_66
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v109 : BitVec 32 := Scalar.muli v8 c1_i32_67
  let v110 : BitVec 32 := Scalar.addi v108 v109
  v110.toNat
def k0_dev6 (d0 : Dev nD) : Nat :=
  let c0_i32_74 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_73 : BitVec 32 := 8#32
  let v118 : BitVec 32 := Scalar.muli v19 c8_i32_73
  let v119 : BitVec 32 := Scalar.addi c0_i32_74 v118
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_75 : BitVec 32 := 4#32
  let v120 : BitVec 32 := Scalar.muli v5 c4_i32_75
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v122 : BitVec 32 := Scalar.muli v8 c1_i32_76
  let v123 : BitVec 32 := Scalar.addi v121 v122
  v123.toNat
def k0_dev7 (d0 : Dev nD) : Nat :=
  let c0_i32_83 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_82 : BitVec 32 := 8#32
  let v131 : BitVec 32 := Scalar.muli v19 c8_i32_82
  let v132 : BitVec 32 := Scalar.addi c0_i32_83 v131
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_84 : BitVec 32 := 4#32
  let v133 : BitVec 32 := Scalar.muli v5 c4_i32_84
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v135 : BitVec 32 := Scalar.muli v8 c1_i32_85
  let v136 : BitVec 32 := Scalar.addi v134 v135
  v136.toNat
def k0_dev8 (d0 : Dev nD) : Nat :=
  let c0_i32_92 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_91 : BitVec 32 := 8#32
  let v144 : BitVec 32 := Scalar.muli v19 c8_i32_91
  let v145 : BitVec 32 := Scalar.addi c0_i32_92 v144
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v146 : BitVec 32 := Scalar.muli v5 c4_i32_93
  let v147 : BitVec 32 := Scalar.addi v145 v146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v148 : BitVec 32 := Scalar.muli v8 c1_i32_94
  let v149 : BitVec 32 := Scalar.addi v147 v148
  v149.toNat
def k0_dev9 (d0 : Dev nD) : Nat :=
  let c0_i32_100 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_99 : BitVec 32 := 8#32
  let v157 : BitVec 32 := Scalar.muli v19 c8_i32_99
  let v158 : BitVec 32 := Scalar.addi c0_i32_100 v157
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_101 : BitVec 32 := 4#32
  let v159 : BitVec 32 := Scalar.muli v5 c4_i32_101
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v161 : BitVec 32 := Scalar.muli v8 c1_i32_102
  let v162 : BitVec 32 := Scalar.addi v160 v161
  v162.toNat
def k0_dev10 (d0 : Dev nD) : Nat :=
  let c0_i32_108 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_107 : BitVec 32 := 8#32
  let v170 : BitVec 32 := Scalar.muli v19 c8_i32_107
  let v171 : BitVec 32 := Scalar.addi c0_i32_108 v170
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v172 : BitVec 32 := Scalar.muli v5 c4_i32_109
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v174 : BitVec 32 := Scalar.muli v8 c1_i32_110
  let v175 : BitVec 32 := Scalar.addi v173 v174
  v175.toNat
def k0_dev11 (d0 : Dev nD) : Nat :=
  let c0_i32_116 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_115 : BitVec 32 := 8#32
  let v183 : BitVec 32 := Scalar.muli v19 c8_i32_115
  let v184 : BitVec 32 := Scalar.addi c0_i32_116 v183
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_117 : BitVec 32 := 4#32
  let v185 : BitVec 32 := Scalar.muli v5 c4_i32_117
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v187 : BitVec 32 := Scalar.muli v8 c1_i32_118
  let v188 : BitVec 32 := Scalar.addi v186 v187
  v188.toNat
def k0_off4 (d0 : Dev nD) (c0_i32_122 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_47 : BitVec 32 := 2048#32
  let v84 : BitVec 32 := Scalar.muli v2 c2048_i32_47
  let c1_i32_48 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v85 : BitVec 32 := Scalar.subi c1_i32_48 v5
  let c1024_i32_49 : BitVec 32 := 1024#32
  let v86 : BitVec 32 := Scalar.muli v85 c1024_i32_49
  let v87 : BitVec 32 := Scalar.addi v84 v86
  let c1_i32_50 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_50 v18
  let c512_i32_51 : BitVec 32 := 512#32
  let v89 : BitVec 32 := Scalar.muli v88 c512_i32_51
  let v90 : BitVec 32 := Scalar.addi v87 v89
  let v195 : BitVec 32 := Scalar.addi v90 c0_i32_122
  let c0_i32_129 : BitVec 32 := 0#32
  ![v195.toNat, 0]
def k0_dev12 (d0 : Dev nD) : Nat :=
  let c0_i32_126 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_125 : BitVec 32 := 8#32
  let v196 : BitVec 32 := Scalar.muli v19 c8_i32_125
  let v197 : BitVec 32 := Scalar.addi c0_i32_126 v196
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_127 : BitVec 32 := 4#32
  let v198 : BitVec 32 := Scalar.muli v5 c4_i32_127
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_128 : BitVec 32 := 1#32
  let v200 : BitVec 32 := Scalar.muli v8 c1_i32_128
  let v201 : BitVec 32 := Scalar.addi v199 v200
  v201.toNat
def k0_dev13 (d0 : Dev nD) : Nat :=
  let c0_i32_135 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_134 : BitVec 32 := 8#32
  let v209 : BitVec 32 := Scalar.muli v19 c8_i32_134
  let v210 : BitVec 32 := Scalar.addi c0_i32_135 v209
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_136 : BitVec 32 := 4#32
  let v211 : BitVec 32 := Scalar.muli v5 c4_i32_136
  let v212 : BitVec 32 := Scalar.addi v210 v211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v213 : BitVec 32 := Scalar.muli v8 c1_i32_137
  let v214 : BitVec 32 := Scalar.addi v212 v213
  v214.toNat
def k0_dev14 (d0 : Dev nD) : Nat :=
  let c0_i32_144 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_143 : BitVec 32 := 8#32
  let v222 : BitVec 32 := Scalar.muli v19 c8_i32_143
  let v223 : BitVec 32 := Scalar.addi c0_i32_144 v222
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_145 : BitVec 32 := 4#32
  let v224 : BitVec 32 := Scalar.muli v5 c4_i32_145
  let v225 : BitVec 32 := Scalar.addi v223 v224
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v226 : BitVec 32 := Scalar.muli v8 c1_i32_146
  let v227 : BitVec 32 := Scalar.addi v225 v226
  v227.toNat
def k0_off5 (d0 : Dev nD) (c0_i32_159 : BitVec 32) : Fin 2 → Nat :=
  let c1_i32_35 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v63 : BitVec 32 := Scalar.subi c1_i32_35 v2
  let c2048_i32 : BitVec 32 := 2048#32
  let v64 : BitVec 32 := Scalar.muli v63 c2048_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_36 : BitVec 32 := 1024#32
  let v65 : BitVec 32 := Scalar.muli v5 c1024_i32_36
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_37 : BitVec 32 := 512#32
  let v67 : BitVec 32 := Scalar.muli v18 c512_i32_37
  let v68 : BitVec 32 := Scalar.addi v66 v67
  let v244 : BitVec 32 := Scalar.addi v68 c0_i32_159
  let c0_i32_166 : BitVec 32 := 0#32
  ![v244.toNat, 0]
def k0_dev15 (d0 : Dev nD) : Nat :=
  let c0_i32_163 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_162 : BitVec 32 := 8#32
  let v245 : BitVec 32 := Scalar.muli v2 c8_i32_162
  let v246 : BitVec 32 := Scalar.addi c0_i32_163 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_164 : BitVec 32 := 4#32
  let v247 : BitVec 32 := Scalar.muli v5 c4_i32_164
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_165 : BitVec 32 := 1#32
  let v249 : BitVec 32 := Scalar.muli v23 c1_i32_165
  let v250 : BitVec 32 := Scalar.addi v248 v249
  v250.toNat
def k0_dev16 (d0 : Dev nD) : Nat :=
  let c0_i32_172 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_171 : BitVec 32 := 8#32
  let v258 : BitVec 32 := Scalar.muli v2 c8_i32_171
  let v259 : BitVec 32 := Scalar.addi c0_i32_172 v258
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_173 : BitVec 32 := 4#32
  let v260 : BitVec 32 := Scalar.muli v20 c4_i32_173
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v262 : BitVec 32 := Scalar.muli v8 c1_i32_174
  let v263 : BitVec 32 := Scalar.addi v261 v262
  v263.toNat
def k0_dev17 (d0 : Dev nD) : Nat :=
  let c0_i32_190 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_189 : BitVec 32 := 8#32
  let v281 : BitVec 32 := Scalar.muli v2 c8_i32_189
  let v282 : BitVec 32 := Scalar.addi c0_i32_190 v281
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_191 : BitVec 32 := 4#32
  let v283 : BitVec 32 := Scalar.muli v5 c4_i32_191
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_192 : BitVec 32 := 1#32
  let v285 : BitVec 32 := Scalar.muli v23 c1_i32_192
  let v286 : BitVec 32 := Scalar.addi v284 v285
  v286.toNat
def k0_dev18 (d0 : Dev nD) : Nat :=
  let c0_i32_199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_198 : BitVec 32 := 8#32
  let v294 : BitVec 32 := Scalar.muli v2 c8_i32_198
  let v295 : BitVec 32 := Scalar.addi c0_i32_199 v294
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_200 : BitVec 32 := 4#32
  let v296 : BitVec 32 := Scalar.muli v20 c4_i32_200
  let v297 : BitVec 32 := Scalar.addi v295 v296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v298 : BitVec 32 := Scalar.muli v8 c1_i32_201
  let v299 : BitVec 32 := Scalar.addi v297 v298
  v299.toNat
def k0_dev19 (d0 : Dev nD) : Nat :=
  let c0_i32_217 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_216 : BitVec 32 := 8#32
  let v317 : BitVec 32 := Scalar.muli v2 c8_i32_216
  let v318 : BitVec 32 := Scalar.addi c0_i32_217 v317
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_218 : BitVec 32 := 4#32
  let v319 : BitVec 32 := Scalar.muli v5 c4_i32_218
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_219 : BitVec 32 := 1#32
  let v321 : BitVec 32 := Scalar.muli v23 c1_i32_219
  let v322 : BitVec 32 := Scalar.addi v320 v321
  v322.toNat
def k0_dev20 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v330 : BitVec 32 := Scalar.muli v2 c8_i32_225
  let v331 : BitVec 32 := Scalar.addi c0_i32_226 v330
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_227 : BitVec 32 := 4#32
  let v332 : BitVec 32 := Scalar.muli v20 c4_i32_227
  let v333 : BitVec 32 := Scalar.addi v331 v332
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v334 : BitVec 32 := Scalar.muli v8 c1_i32_228
  let v335 : BitVec 32 := Scalar.addi v333 v334
  v335.toNat
def k0_dev21 (d0 : Dev nD) : Nat :=
  let c0_i32_244 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_243 : BitVec 32 := 8#32
  let v353 : BitVec 32 := Scalar.muli v2 c8_i32_243
  let v354 : BitVec 32 := Scalar.addi c0_i32_244 v353
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_245 : BitVec 32 := 4#32
  let v355 : BitVec 32 := Scalar.muli v5 c4_i32_245
  let v356 : BitVec 32 := Scalar.addi v354 v355
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_246 : BitVec 32 := 1#32
  let v357 : BitVec 32 := Scalar.muli v23 c1_i32_246
  let v358 : BitVec 32 := Scalar.addi v356 v357
  v358.toNat
def k0_dev22 (d0 : Dev nD) : Nat :=
  let c0_i32_253 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_252 : BitVec 32 := 8#32
  let v366 : BitVec 32 := Scalar.muli v2 c8_i32_252
  let v367 : BitVec 32 := Scalar.addi c0_i32_253 v366
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_254 : BitVec 32 := 4#32
  let v368 : BitVec 32 := Scalar.muli v20 c4_i32_254
  let v369 : BitVec 32 := Scalar.addi v367 v368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_255 : BitVec 32 := 1#32
  let v370 : BitVec 32 := Scalar.muli v8 c1_i32_255
  let v371 : BitVec 32 := Scalar.addi v369 v370
  v371.toNat
def k0_dev23 (d0 : Dev nD) : Nat :=
  let c0_i32_271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_270 : BitVec 32 := 8#32
  let v389 : BitVec 32 := Scalar.muli v2 c8_i32_270
  let v390 : BitVec 32 := Scalar.addi c0_i32_271 v389
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_272 : BitVec 32 := 4#32
  let v391 : BitVec 32 := Scalar.muli v5 c4_i32_272
  let v392 : BitVec 32 := Scalar.addi v390 v391
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_273 : BitVec 32 := 1#32
  let v393 : BitVec 32 := Scalar.muli v23 c1_i32_273
  let v394 : BitVec 32 := Scalar.addi v392 v393
  v394.toNat
def k0_dev24 (d0 : Dev nD) : Nat :=
  let c0_i32_280 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_279 : BitVec 32 := 8#32
  let v402 : BitVec 32 := Scalar.muli v2 c8_i32_279
  let v403 : BitVec 32 := Scalar.addi c0_i32_280 v402
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_281 : BitVec 32 := 4#32
  let v404 : BitVec 32 := Scalar.muli v20 c4_i32_281
  let v405 : BitVec 32 := Scalar.addi v403 v404
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v406 : BitVec 32 := Scalar.muli v8 c1_i32_282
  let v407 : BitVec 32 := Scalar.addi v405 v406
  v407.toNat
def k0_dev25 (d0 : Dev nD) : Nat :=
  let c0_i32_298 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_297 : BitVec 32 := 8#32
  let v425 : BitVec 32 := Scalar.muli v2 c8_i32_297
  let v426 : BitVec 32 := Scalar.addi c0_i32_298 v425
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_299 : BitVec 32 := 4#32
  let v427 : BitVec 32 := Scalar.muli v5 c4_i32_299
  let v428 : BitVec 32 := Scalar.addi v426 v427
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_300 : BitVec 32 := 1#32
  let v429 : BitVec 32 := Scalar.muli v23 c1_i32_300
  let v430 : BitVec 32 := Scalar.addi v428 v429
  v430.toNat
def k0_dev26 (d0 : Dev nD) : Nat :=
  let c0_i32_307 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_306 : BitVec 32 := 8#32
  let v438 : BitVec 32 := Scalar.muli v2 c8_i32_306
  let v439 : BitVec 32 := Scalar.addi c0_i32_307 v438
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_308 : BitVec 32 := 4#32
  let v440 : BitVec 32 := Scalar.muli v20 c4_i32_308
  let v441 : BitVec 32 := Scalar.addi v439 v440
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_309 : BitVec 32 := 1#32
  let v442 : BitVec 32 := Scalar.muli v8 c1_i32_309
  let v443 : BitVec 32 := Scalar.addi v441 v442
  v443.toNat
def k0_dev27 (d0 : Dev nD) : Nat :=
  let c0_i32_325 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_324 : BitVec 32 := 8#32
  let v461 : BitVec 32 := Scalar.muli v2 c8_i32_324
  let v462 : BitVec 32 := Scalar.addi c0_i32_325 v461
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_326 : BitVec 32 := 4#32
  let v463 : BitVec 32 := Scalar.muli v5 c4_i32_326
  let v464 : BitVec 32 := Scalar.addi v462 v463
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_327 : BitVec 32 := 1#32
  let v465 : BitVec 32 := Scalar.muli v23 c1_i32_327
  let v466 : BitVec 32 := Scalar.addi v464 v465
  v466.toNat
def k0_dev28 (d0 : Dev nD) : Nat :=
  let c0_i32_334 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_333 : BitVec 32 := 8#32
  let v474 : BitVec 32 := Scalar.muli v2 c8_i32_333
  let v475 : BitVec 32 := Scalar.addi c0_i32_334 v474
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_335 : BitVec 32 := 4#32
  let v476 : BitVec 32 := Scalar.muli v20 c4_i32_335
  let v477 : BitVec 32 := Scalar.addi v475 v476
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_336 : BitVec 32 := 1#32
  let v478 : BitVec 32 := Scalar.muli v8 c1_i32_336
  let v479 : BitVec 32 := Scalar.addi v477 v478
  v479.toNat
def k0_dev29 (d0 : Dev nD) : Nat :=
  let c0_i32_352 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_351 : BitVec 32 := 8#32
  let v497 : BitVec 32 := Scalar.muli v2 c8_i32_351
  let v498 : BitVec 32 := Scalar.addi c0_i32_352 v497
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_353 : BitVec 32 := 4#32
  let v499 : BitVec 32 := Scalar.muli v5 c4_i32_353
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_354 : BitVec 32 := 1#32
  let v501 : BitVec 32 := Scalar.muli v23 c1_i32_354
  let v502 : BitVec 32 := Scalar.addi v500 v501
  v502.toNat
def k0_dev30 (d0 : Dev nD) : Nat :=
  let c0_i32_361 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_360 : BitVec 32 := 8#32
  let v510 : BitVec 32 := Scalar.muli v2 c8_i32_360
  let v511 : BitVec 32 := Scalar.addi c0_i32_361 v510
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_362 : BitVec 32 := 4#32
  let v512 : BitVec 32 := Scalar.muli v20 c4_i32_362
  let v513 : BitVec 32 := Scalar.addi v511 v512
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_363 : BitVec 32 := 1#32
  let v514 : BitVec 32 := Scalar.muli v8 c1_i32_363
  let v515 : BitVec 32 := Scalar.addi v513 v514
  v515.toNat
def k0_off6 (d0 : Dev nD) (c192_i32_366 : BitVec 32) : Fin 2 → Nat :=
  let c1_i32_35 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v63 : BitVec 32 := Scalar.subi c1_i32_35 v2
  let c2048_i32 : BitVec 32 := 2048#32
  let v64 : BitVec 32 := Scalar.muli v63 c2048_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_38 : BitVec 32 := 1024#32
  let v69 : BitVec 32 := Scalar.muli v5 c1024_i32_38
  let v70 : BitVec 32 := Scalar.addi v64 v69
  let c1_i32_39 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v71 : BitVec 32 := Scalar.subi c1_i32_39 v18
  let c512_i32_40 : BitVec 32 := 512#32
  let v72 : BitVec 32 := Scalar.muli v71 c512_i32_40
  let v73 : BitVec 32 := Scalar.addi v70 v72
  let v522 : BitVec 32 := Scalar.addi v73 c192_i32_366
  let c0_i32_373 : BitVec 32 := 0#32
  ![v522.toNat, 0]
def k0_dev31 (d0 : Dev nD) : Nat :=
  let c0_i32_379 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_378 : BitVec 32 := 8#32
  let v534 : BitVec 32 := Scalar.muli v2 c8_i32_378
  let v535 : BitVec 32 := Scalar.addi c0_i32_379 v534
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_380 : BitVec 32 := 4#32
  let v536 : BitVec 32 := Scalar.muli v20 c4_i32_380
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_381 : BitVec 32 := 1#32
  let v538 : BitVec 32 := Scalar.muli v8 c1_i32_381
  let v539 : BitVec 32 := Scalar.addi v537 v538
  v539.toNat
def k0_dev32 (d0 : Dev nD) : Nat :=
  let c0_i32_397 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_396 : BitVec 32 := 8#32
  let v558 : BitVec 32 := Scalar.muli v2 c8_i32_396
  let v559 : BitVec 32 := Scalar.addi c0_i32_397 v558
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_398 : BitVec 32 := 4#32
  let v560 : BitVec 32 := Scalar.muli v20 c4_i32_398
  let v561 : BitVec 32 := Scalar.addi v559 v560
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_399 : BitVec 32 := 1#32
  let v562 : BitVec 32 := Scalar.muli v8 c1_i32_399
  let v563 : BitVec 32 := Scalar.addi v561 v562
  v563.toNat
def k0_dev33 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v582 : BitVec 32 := Scalar.muli v2 c8_i32_414
  let v583 : BitVec 32 := Scalar.addi c0_i32_415 v582
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_416 : BitVec 32 := 4#32
  let v584 : BitVec 32 := Scalar.muli v20 c4_i32_416
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v586 : BitVec 32 := Scalar.muli v8 c1_i32_417
  let v587 : BitVec 32 := Scalar.addi v585 v586
  v587.toNat
def k0_off7 (d0 : Dev nD) (c384_i32_420 : BitVec 32) : Fin 2 → Nat :=
  let c1_i32_35 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v63 : BitVec 32 := Scalar.subi c1_i32_35 v2
  let c2048_i32 : BitVec 32 := 2048#32
  let v64 : BitVec 32 := Scalar.muli v63 c2048_i32
  let c1_i32_41 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v74 : BitVec 32 := Scalar.subi c1_i32_41 v5
  let c1024_i32_42 : BitVec 32 := 1024#32
  let v75 : BitVec 32 := Scalar.muli v74 c1024_i32_42
  let v76 : BitVec 32 := Scalar.addi v64 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32_43 : BitVec 32 := 512#32
  let v77 : BitVec 32 := Scalar.muli v18 c512_i32_43
  let v78 : BitVec 32 := Scalar.addi v76 v77
  let v594 : BitVec 32 := Scalar.addi v78 c384_i32_420
  let c0_i32_427 : BitVec 32 := 0#32
  ![v594.toNat, 0]
def k0_dev34 (d0 : Dev nD) : Nat :=
  let c0_i32_433 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_432 : BitVec 32 := 8#32
  let v606 : BitVec 32 := Scalar.muli v2 c8_i32_432
  let v607 : BitVec 32 := Scalar.addi c0_i32_433 v606
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_434 : BitVec 32 := 4#32
  let v608 : BitVec 32 := Scalar.muli v5 c4_i32_434
  let v609 : BitVec 32 := Scalar.addi v607 v608
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_435 : BitVec 32 := 1#32
  let v610 : BitVec 32 := Scalar.muli v23 c1_i32_435
  let v611 : BitVec 32 := Scalar.addi v609 v610
  v611.toNat
def k0_dev35 (d0 : Dev nD) : Nat :=
  let c0_i32_451 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_450 : BitVec 32 := 8#32
  let v630 : BitVec 32 := Scalar.muli v2 c8_i32_450
  let v631 : BitVec 32 := Scalar.addi c0_i32_451 v630
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_452 : BitVec 32 := 4#32
  let v632 : BitVec 32 := Scalar.muli v5 c4_i32_452
  let v633 : BitVec 32 := Scalar.addi v631 v632
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_453 : BitVec 32 := 1#32
  let v634 : BitVec 32 := Scalar.muli v23 c1_i32_453
  let v635 : BitVec 32 := Scalar.addi v633 v634
  v635.toNat
def k0_off8 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_458 : BitVec 32 := 2048#32
  let v644 : BitVec 32 := Scalar.muli v2 c2048_i32_458
  let v645 : Index := Scalar.indexCast v644
  let c0_459 : Index := 0#32
  ![v645.toNat, 0]
def k0_off9 (d0 : Dev nD) : Fin 2 → Nat :=
  let c1_i32_35 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v63 : BitVec 32 := Scalar.subi c1_i32_35 v2
  let c2048_i32 : BitVec 32 := 2048#32
  let v64 : BitVec 32 := Scalar.muli v63 c2048_i32
  let c0_i32_564 : BitVec 32 := 0#32
  ![v64.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
# The mesh, the transfers and the order of one device's steps

Sixteen devices stand on a mesh (x = 2, y = 2, z = 4); device `c` is at x = `c / 8`, y = `c / 4 % 2`, z = `c % 4`. Each
device talks to three partners: across x (`xp`), across y (`yp`), and to the neighbour that differs in the lowest bit of z
(`zp`). A device makes 32 transfers of one chunk (64 rows) each, numbered 0–10 across x, 11–20 across z and 21–31 across y;
the transfers that arrive at a device bring exactly the 32 chunks of the half of the result it does not hold itself.
-/
module

public import proofs.«01_k».proof.Proof.Gen.KernelIdeal
public import Idealize.ShloMosaic.Lib.Pipeline.Kit

@[expose] public section

noncomputable section

namespace Cert.AllGather

open Cert.KernelIdeal Cert.KernelIdeal.Gen
open Idealize.ShloMosaic Idealize.ShloMosaic.TcCoe

variable {F : FTy → Type} [FloatOps F]

/-! ## Devices -/

/-- The partner across x. -/
def xp (c : Dev nD) : Dev nD := ⟨(c.val + 8) % 16, Nat.mod_lt _ (by decide)⟩
/-- The partner across y. -/
def yp (c : Dev nD) : Dev nD := ⟨(c.val / 8 * 8 + (c.val + 4) % 8) % 16, Nat.mod_lt _ (by decide)⟩
/-- The partner along z. -/
def zp (c : Dev nD) : Dev nD := ⟨(c.val / 2 * 2 + (c.val + 1) % 2) % 16, Nat.mod_lt _ (by decide)⟩

/-- The partner in a direction: 0 across x, 1 across y, 2 along z. -/
def peer (d : Fin 3) (c : Dev nD) : Dev nD := if d = 0 then xp c else if d = 1 then yp c else zp c

theorem peer_peer (d : Fin 3) (c : Dev nD) : peer d (peer d c) = c := by revert d c; decide +kernel

/-- Going to the partner, as a permutation of the devices. -/
def swap (d : Fin 3) : Dev nD ≃ Dev nD := ⟨peer d, peer d, peer_peer d, peer_peer d⟩

/-! ## Transfers -/

/-- The direction a transfer goes in. -/
def dir (t : Fin 32) : Fin 3 := if t.val < 11 then 0 else if t.val < 21 then 2 else 1

/-- The device that transfer `t` of `c` goes to (and the one whose transfer `t` comes to `c`). -/
abbrev dst (c : Dev nD) (t : Fin 32) : Dev nD := peer (dir t) c

theorem dst_dst (c : Dev nD) (t : Fin 32) : dst (dst c t) t = c := peer_peer _ _

/-- The DMA semaphore counted when transfer `t` has left; -/
def sendS (t : Fin 32) : DmaSem sig :=
  ⟨if t.val < 11 then 2 + t.val else if t.val < 21 then 13 + t.val else 23 + t.val, by
    revert t; decide⟩
/-- the one counted when it has arrived. -/
def recvS (t : Fin 32) : DmaSem sig :=
  ⟨if t.val < 11 then 13 + t.val else if t.val < 21 then 23 + t.val else 34 + t.val, by
    revert t; decide⟩

/-- The semaphore of a transfer's departure (`false`) or arrival (`true`). -/
def xferS (i : Bool × Fin 32) : DmaSem sig := if i.1 then recvS i.2 else sendS i.2

/-- What a DMA semaphore counts. -/
def role (q : DmaSem sig) : Option (Bool × Fin 32) :=
  ((List.finRange 32).flatMap fun t => [(false, t), (true, t)]).find? fun i => xferS i = q

theorem role_xferS (i : Bool × Fin 32) : role (xferS i) = some i := by revert i; decide +kernel

theorem xferS_inj : Function.Injective xferS := fun i j h =>
  Option.some.inj ((role_xferS i).symm.trans ((congrArg role h).trans (role_xferS j)))

/-- The place, among the 64 chunks of the result, of the chunk that transfer `t` brings to device `c`: in the half of the
    other x; in the quarter of the same or the other y and z parity; at its place in that quarter. -/
def chunk (c : Dev nD) (t : Fin 32) : ℕ :=
  let Y := c.val / 4 % 2
  let p := c.val % 2
  let Y' := if 8 ≤ t.val ∧ t.val < 11 ∨ 19 ≤ t.val then 1 - Y else Y
  let p' := if 8 ≤ t.val ∧ t.val < 21 ∨ 29 ≤ t.val then 1 - p else p
  let k := if t.val < 8 then t.val else if t.val < 11 then t.val - 8 else if t.val < 19 then t.val - 11
    else if t.val < 21 then t.val - 13 else if t.val < 29 then t.val - 21 else t.val - 26
  (1 - c.val / 8) * 32 + Y' * 16 + p' * 8 + k

theorem chunk_lt (c : Dev nD) (t : Fin 32) : chunk c t < 64 := by revert c t; decide +kernel

/-- The chunks that arrive at a device are all different, -/
theorem chunk_inj (c : Dev nD) (t t' : Fin 32) (h : chunk c t = chunk c t') : t = t' := by revert c t t'; decide +kernel
/-- they lie in the half of the other x, -/
theorem chunk_half (c : Dev nD) (t : Fin 32) : chunk c t / 32 = 1 - c.val / 8 := by revert c t; decide +kernel
/-- and they fill it. -/
theorem chunk_surj (c : Dev nD) (b : Fin 64) (h : b.val / 32 ≠ c.val / 8) : ∃ t, chunk c t = b.val := by
  revert c b; decide +kernel

/-- The piece of a device's memory that a transfer is sent from: a chunk of the data staged for the x partner (`inl`), or one
    half of the right to read a chunk that arrived, the left half for the forwards along z, the right for those across y. -/
abbrev Piece : Type := Fin 11 ⊕ (Fin 32 × Bool)

/-- The transfer that brought the chunk that transfer `t` forwards. -/
def via (t : Fin 32) : Fin 32 :=
  Fin.ofNat 32 (if t.val < 19 then t.val - 11 else if t.val < 21 then t.val + 8 else if t.val < 29 then t.val - 21 else t.val - 15)

/-- The piece transfer `t` is sent from. -/
def source (t : Fin 32) : Piece :=
  if h : t.val < 11 then .inl ⟨t.val, h⟩ else .inr (via t, decide (21 ≤ t.val))

theorem source_inj (t t' : Fin 32) (h : source t = source t') : t = t' := by revert t t'; decide +kernel

/-- The place in the result of the chunk a piece holds. -/
def place (c : Dev nD) : Piece → ℕ
  | .inl k => chunk (xp c) (Fin.castLE (by decide) k)
  | .inr (t, _) => chunk c t

/-- The device whose input the chunk at place `b` of device `c`'s result is copied from. -/
def origin (c : Dev nD) (b : ℕ) : Dev nD :=
  if b / 32 = c.val / 8 then c
  else if b / 16 % 2 = c.val / 4 % 2 then if b / 8 % 2 = c.val % 2 then xp c else xp (zp c)
  else if b / 8 % 2 = c.val % 2 then xp (yp c)
  else if b % 8 < 3 then xp c else xp (zp (yp c))

/-- A transfer puts the chunk at the place it had at the sender, -/
theorem place_source (c : Dev nD) (t : Fin 32) : place c (source t) = chunk (dst c t) t := by revert c t; decide +kernel
/-- and what it carries comes from the same input. -/
theorem origin_source (c : Dev nD) (t : Fin 32) :
    origin (dst c t) (chunk (dst c t) t) = origin c (place c (source t)) := by revert c t; decide +kernel

theorem origin_own (c : Dev nD) (k : Fin 11) : origin c (place c (.inl k)) = c := by revert c k; decide +kernel
theorem origin_half (c : Dev nD) (b : Fin 64) : (origin c b).val / 8 = b.val / 32 := by revert c b; decide +kernel

/-! ## The order of the steps -/

/-- A step of a device, after the entry handshake. -/
inductive Act
  /-- send a transfer -/
  | send (t : Fin 32)
  /-- wait until it has left -/
  | left (t : Fin 32)
  /-- wait until it has arrived -/
  | recv (t : Fin 32)
  /-- copy the device's own half to the result -/
  | store
  /-- nothing more -/
  | done
  deriving DecidableEq

/-- The transfers across x, along z and across y by their number in that direction. -/
abbrev tx (k : ℕ) : Fin 32 := Fin.ofNat 32 k
abbrev tz (k : ℕ) : Fin 32 := Fin.ofNat 32 (11 + k)
abbrev ty (k : ℕ) : Fin 32 := Fin.ofNat 32 (21 + k)

/-- The steps in the program's order. -/
def acts : List Act :=
  (List.range 11).map (fun k => .send (tx k))
    ++ (List.range 8).flatMap (fun k => [.recv (tx k), .send (tz k), .send (ty k)])
    ++ (List.range 3).flatMap (fun i => [.recv (tz (3 + i)), .send (ty (8 + i))])
    ++ (List.range 2).flatMap (fun i => [.recv (ty (6 + i)), .send (tz (8 + i))])
    ++ [.store]
    ++ (List.range 11).map (fun k => .left (tx k))
    ++ (List.range 3).map (fun i => .recv (tx (8 + i)))
    ++ (List.range 10).flatMap (fun j => if j ∈ [3, 4, 5] then [.left (tz j)] else [.left (tz j), .recv (tz j)])
    ++ (List.range 11).flatMap (fun j => if j ∈ [6, 7] then [.left (ty j)] else [.left (ty j), .recv (ty j)])

/-- The `n`th step. -/
def act (n : ℕ) : Act := acts.getD n .done

/-- When a transfer is sent, when its departure is waited for, when its arrival is; -/
def sendT (t : Fin 32) : ℕ := acts.idxOf (.send t)
def leftT (t : Fin 32) : ℕ := acts.idxOf (.left t)
def recvT (t : Fin 32) : ℕ := acts.idxOf (.recv t)
/-- when the own half is copied. -/
abbrev storeT : ℕ := 45
/-- The number of steps. -/
abbrev total : ℕ := 97

theorem act_late (n : ℕ) (h : total ≤ n) : act n = .done := by
  unfold act
  rw [List.getD_eq_getElem?_getD, List.getElem?_eq_none (le_trans (le_of_eq (by decide +kernel)) h), Option.getD_none]

theorem act_sendT (t : Fin 32) : act (sendT t) = .send t := by revert t; decide +kernel
theorem act_leftT (t : Fin 32) : act (leftT t) = .left t := by revert t; decide +kernel
theorem act_recvT (t : Fin 32) : act (recvT t) = .recv t := by revert t; decide +kernel
theorem act_storeT : act storeT = .store := by decide +kernel

/-- Each step is made once: it is the step made at its time. -/
theorem act_inv (n : Fin total) : (∀ t, act n = .send t → sendT t = n) ∧ (∀ t, act n = .left t → leftT t = n)
    ∧ (∀ t, act n = .recv t → recvT t = n) ∧ (act n = .store → storeT = n) := by revert n; decide +kernel

theorem lt_total {n : ℕ} (h : act n ≠ .done) : n < total := by
  by_contra hn; exact h (act_late n (Nat.le_of_not_lt hn))

theorem sendT_eq {n : ℕ} {t : Fin 32} (h : act n = .send t) : sendT t = n :=
  (act_inv ⟨n, lt_total (by rw [h]; exact nofun)⟩).1 t h
theorem leftT_eq {n : ℕ} {t : Fin 32} (h : act n = .left t) : leftT t = n :=
  (act_inv ⟨n, lt_total (by rw [h]; exact nofun)⟩).2.1 t h
theorem recvT_eq {n : ℕ} {t : Fin 32} (h : act n = .recv t) : recvT t = n :=
  (act_inv ⟨n, lt_total (by rw [h]; exact nofun)⟩).2.2.1 t h
theorem storeT_eq {n : ℕ} (h : act n = .store) : storeT = n :=
  (act_inv ⟨n, lt_total (by rw [h]; exact nofun)⟩).2.2.2 h

/-- A transfer's departure is waited for after every send. -/
theorem sendT_lt_leftT (t t' : Fin 32) : sendT t < leftT t' := by revert t t'; decide +kernel
/-- A chunk is forwarded after it arrived. -/
theorem recvT_lt_sendT (t r : Fin 32) (b : Bool) (h : source t = .inr (r, b)) : recvT r < sendT t := by
  revert t r b; decide +kernel
theorem sendT_lt (t : Fin 32) : sendT t < total := by revert t; decide +kernel
theorem leftT_lt (t : Fin 32) : leftT t < total := by revert t; decide +kernel
theorem recvT_lt (t : Fin 32) : recvT t < total := by revert t; decide +kernel

/-- How far along its way a chunk arrives: 2 straight across x, 3 forwarded once, 4 forwarded twice. -/
def level (t : Fin 32) : ℕ := if t.val < 11 then 2 else if t.val = 19 ∨ t.val = 20 ∨ 29 ≤ t.val then 4 else 3

/-- While a device waits for an arrival, what it has still to send arrives further along. -/
theorem level_lt (t t' : Fin 32) (h : recvT t ≤ sendT t') : level t < level t' := by revert t t'; decide +kernel

end Cert.AllGather

end
-- ==== Proof.Contents.lean ====
/-
# What the buffers hold

`X c` is what device `c`'s input buffer holds. `outC X c` is what its result holds in the end, and the pieces of memory the
transfers are sent from and land in are read as chunks of it.
-/
module

public import proofs.«01_k».proof.Proof.Mesh
public import proofs.«01_k».proof.Proof.Gen.KernelIdeal.Skeleton
public import Idealize.ShloMosaic.Lib.Pipeline.Value
public import Idealize.ShloMosaic.Lib.Pipeline.Launch

@[expose] public section

noncomputable section

namespace Cert.AllGather

open Cert.KernelIdeal Cert.KernelIdeal.Gen
open Idealize.ShloMosaic Idealize.ShloMosaic.TcCoe

variable {F : FTy → Type} [FloatOps F]

/-! ## The buffers -/

/-- The input, the result, and the two buffers of data staged for the x partner. -/
abbrev xM : Memref sig .tc .vmem S2048x512 .bf16 := Memref.whole cc0_stg0_0
abbrev outM : Memref sig .tc .vmem S4096x512 .bf16 := Memref.whole cc0_stg1_0
abbrev aM : Memref sig .tc .vmem S512x512 .bf16 := Memref.whole cc0_scratch0
abbrev bM : Memref sig .tc .vmem S192x512 .bf16 := Memref.whole cc0_scratch1

theorem rows_inb {b : ℕ} (h : b < 64) : ∀ a, (![64 * b, 0] : Fin 2 → ℕ) a + S64x512.size a ≤ S4096x512.size a := by
  intro a; fin_cases a
  · show 64 * b + 64 ≤ 4096; omega
  · show 0 + 512 ≤ 512; omega
theorem rowsA_inb {b : ℕ} (h : b < 8) : ∀ a, (![64 * b, 0] : Fin 2 → ℕ) a + S64x512.size a ≤ S512x512.size a := by
  intro a; fin_cases a
  · show 64 * b + 64 ≤ 512; omega
  · show 0 + 512 ≤ 512; omega
theorem rowsB_inb {b : ℕ} (h : b < 3) : ∀ a, (![64 * b, 0] : Fin 2 → ℕ) a + S64x512.size a ≤ S192x512.size a := by
  intro a; fin_cases a
  · show 64 * b + 64 ≤ 192; omega
  · show 0 + 512 ≤ 512; omega

/-- A chunk of the result. -/
def rows (b : ℕ) (h : b < 64) : Memref sig .tc .vmem S64x512 .bf16 :=
  outM.slice (Rect.unit (s := S4096x512) ![64 * b, 0] S64x512.size (rows_inb h)) (fun _ => rfl)
/-- Where transfer `t` lands on device `c`. -/
abbrev land (c : Dev nD) (t : Fin 32) : Memref sig .tc .vmem S64x512 .bf16 := rows (chunk c t) (chunk_lt c t)

/-- A chunk of the staged data. -/
def rowsA (b : ℕ) (h : b < 8) : Memref sig .tc .vmem S64x512 .bf16 :=
  aM.slice (Rect.unit (s := S512x512) ![64 * b, 0] S64x512.size (rowsA_inb h)) (fun _ => rfl)
def rowsB (b : ℕ) (h : b < 3) : Memref sig .tc .vmem S64x512 .bf16 :=
  bM.slice (Rect.unit (s := S192x512) ![64 * b, 0] S64x512.size (rowsB_inb h)) (fun _ => rfl)
def staged (k : Fin 11) : Memref sig .tc .vmem S64x512 .bf16 :=
  if h : k.val < 8 then rowsA k.val h else rowsB (k.val - 8) (by omega)

/-- The memory of a piece, and the share of it. -/
def pieceM (c : Dev nD) : Piece → Memref sig .tc .vmem S64x512 .bf16
  | .inl k => staged k
  | .inr (t, _) => land c t
open Idealize.SL.RA in
def pieceQ : Piece → PosShare TreeShare
  | .inl _ => fullShare
  | .inr (_, b) => if b then fullShare.right else fullShare.left

/-! ## The printed offsets -/

theorem off1_eq (c : Dev nD) : k0_off1 c = ![64 * (chunk (xp c) 0 % 32), 0] := by revert c; decide +kernel
theorem off2_eq (c : Dev nD) : k0_off2 c = ![64 * (chunk (xp c) 8 % 32), 0] := by revert c; decide +kernel
theorem off8_eq (c : Dev nD) : k0_off8 c = ![2048 * (c.val / 8), 0] := k0_off8_eq c

/-- The staged chunks go at the places of the own half one chunk after another. -/
theorem place_a (c : Dev nD) (k : Fin 11) (h : k.val < 8) : place c (.inl k) % 32 = chunk (xp c) 0 % 32 + k.val := by
  revert c k; decide +kernel
theorem place_b (c : Dev nD) (k : Fin 11) (h : ¬k.val < 8) : place c (.inl k) % 32 = chunk (xp c) 8 % 32 + (k.val - 8) := by
  revert c k; decide +kernel

/-! ## Contents -/

/-- Row `r` (counted modulo the input's 2048 rows) and column `j` of an input. -/
def ix (r : ℕ) (j : Fin 512) : S2048x512.Idx := fun a => match a with
  | ⟨0, _⟩ => ⟨r % 2048, Nat.mod_lt _ (by decide)⟩
  | ⟨1, _⟩ => j

theorem ix_congr {r r' : ℕ} (h : r % 2048 = r' % 2048) (j : Fin 512) : ix r j = ix r' j := by
  funext a; fin_cases a
  · exact Fin.ext h
  · rfl

/-- The row and column of an element of a chunk. -/
theorem emb_row {N b : ℕ} (inb : ∀ a, (![64 * b, 0] : Fin 2 → ℕ) a + S64x512.size a ≤ (⟨2, ![N, 512]⟩ : Shape).size a) (i : S64x512.Idx) :
    (((Rect.unit (s := ⟨2, ![N, 512]⟩) ![64 * b, 0] S64x512.size inb).emb i) 0).val = 64 * b + (i 0).val := by
  show 64 * b + 1 * (i 0).val = _; omega
theorem emb_col {N b : ℕ} (inb : ∀ a, (![64 * b, 0] : Fin 2 → ℕ) a + S64x512.size a ≤ (⟨2, ![N, 512]⟩ : Shape).size a) (i : S64x512.Idx) :
    ((Rect.unit (s := ⟨2, ![N, 512]⟩) ![64 * b, 0] S64x512.size inb).emb i) 1 = i 1 :=
  Fin.ext (show 0 + 1 * (i 1).val = (i 1).val by omega)

/-- An element of the input is named by its row and column. -/
theorem ix_self (i : S2048x512.Idx) : ix (i 0).val (i 1) = i := by
  funext a; fin_cases a
  · exact Fin.ext (Nat.mod_eq_of_lt (i 0).isLt)
  · rfl

/-- An element of a rectangle of whole rows of the input. -/
theorem emb_rows {n : ℕ} {off : Fin 2 → ℕ} (inb : ∀ a, off a + (⟨2, ![n, 512]⟩ : Shape).size a ≤ S2048x512.size a) (h : off 1 = 0)
    (i : (⟨2, ![n, 512]⟩ : Shape).Idx) :
    (Rect.unit (s := S2048x512) off (⟨2, ![n, 512]⟩ : Shape).size inb).emb i = ix (off 0 + (i 0).val) (i 1) := by
  rw [← ix_self ((Rect.unit (s := S2048x512) off (⟨2, ![n, 512]⟩ : Shape).size inb).emb i)]
  have h0 : (((Rect.unit (s := S2048x512) off (⟨2, ![n, 512]⟩ : Shape).size inb).emb i) 0).val = off 0 + (i 0).val := by
    show off 0 + 1 * (i 0).val = _; omega
  have h1 : (((Rect.unit (s := S2048x512) off (⟨2, ![n, 512]⟩ : Shape).size inb).emb i) 1) = i 1 :=
    Fin.ext (show off 1 + 1 * (i 1).val = (i 1).val by omega)
  rw [h0, h1]

section Contents
variable (X : Dev nD → S2048x512.Idx → Elt F .bf16)

/-- The result of device `c`. -/
def outC (c : Dev nD) : S4096x512.Idx → Elt F .bf16 := fun i => X (origin c ((i 0).val / 64)) (ix (i 0).val (i 1))

/-- Its chunk at place `b`. -/
def block (c : Dev nD) (b : ℕ) : S64x512.Idx → Elt F .bf16 := fun i => X (origin c b) (ix (64 * b + (i 0).val) (i 1))

/-- What a piece holds. -/
abbrev pieceC (c : Dev nD) (s : Piece) : S64x512.Idx → Elt F .bf16 := block X c (place c s)

/-- A transfer brings the chunk its landing is for. -/
theorem piece_source (c : Dev nD) (t : Fin 32) : pieceC X c (source t) = block X (dst c t) (chunk (dst c t) t) := by
  unfold pieceC block
  rw [← origin_source, place_source]

/-- The staged data. -/
def stagedA (c : Dev nD) : S512x512.Idx → Elt F .bf16 := fun i => X c (ix (64 * (chunk (xp c) 0 % 32) + (i 0).val) (i 1))
def stagedB (c : Dev nD) : S192x512.Idx → Elt F .bf16 := fun i => X c (ix (64 * (chunk (xp c) 8 % 32) + (i 0).val) (i 1))

/-- What the two stores to the staging buffers write. -/
theorem pay_a (c : Dev nD) : k0_pay1 (xM.view.readAt (Elt F) (Rect.unit (s := S2048x512) (k0_off1 c) S512x512.size (k0_off1_inb c)).toLoadRect (X c))
    = stagedA X c := by
  refine (shapeCast_self _ _).trans ((shapeCast_self _ _).trans ?_)
  rw [View.readAt_rect]
  funext i
  refine (congrArg (X c) (emb_rows (k0_off1_inb c) (by rw [off1_eq]; rfl) i)).trans ?_
  rw [off1_eq]; rfl
theorem pay_b (c : Dev nD) : k0_pay2 (xM.view.readAt (Elt F) (Rect.unit (s := S2048x512) (k0_off2 c) S192x512.size (k0_off2_inb c)).toLoadRect (X c))
    = stagedB X c := by
  refine (shapeCast_self _ _).trans ((shapeCast_self _ _).trans ?_)
  rw [View.readAt_rect]
  funext i
  refine (congrArg (X c) (emb_rows (k0_off2_inb c) (by rw [off2_eq]; rfl) i)).trans ?_
  rw [off2_eq]; rfl
/-- What the store of the own half writes. -/
theorem pay_x (c : Dev nD) : k0_pay3 (xM.view.readAt (Elt F) (Rect.unit (s := S2048x512) ![0, 0] S2048x512.size inb_S2048x512_S2048x512_0_0).toLoadRect (X c))
    = X c := by
  refine (shapeCast_self _ _).trans ?_
  exact Memref.readAt_unit_zero (Elt F) cc0_stg0_0 (funext fun a => by fin_cases a <;> rfl) _ _

theorem read_rows (c : Dev nD) (b : ℕ) (h : b < 64) : (rows b h).view.read (Elt F) (outC X c) = block X c b := by
  funext i
  have hi : (i 0).val < 64 := (i 0).isLt
  show X (origin c ((((Rect.unit (s := S4096x512) ![64 * b, 0] S64x512.size (rows_inb h)).emb i) 0).val / 64))
    (ix (((Rect.unit (s := S4096x512) ![64 * b, 0] S64x512.size (rows_inb h)).emb i) 0).val
    (((Rect.unit (s := S4096x512) ![64 * b, 0] S64x512.size (rows_inb h)).emb i) 1)) = _
  rw [emb_row, emb_col, show (64 * b + (i 0).val) / 64 = b by omega]
  rfl

theorem read_rowsA (c : Dev nD) (k : Fin 11) (h : k.val < 8) : (rowsA k.val h).view.read (Elt F) (stagedA X c) = pieceC X c (.inl k) := by
  funext i
  have := place_a c k h
  show X c (ix (64 * (chunk (xp c) 0 % 32) + (((Rect.unit (s := S512x512) ![64 * k.val, 0] S64x512.size (rowsA_inb h)).emb i) 0).val)
    (((Rect.unit (s := S512x512) ![64 * k.val, 0] S64x512.size (rowsA_inb h)).emb i) 1)) = X (origin c (place c (.inl k))) _
  rw [origin_own, emb_row, emb_col]
  exact congrArg (X c) (ix_congr (by omega) _)
theorem read_rowsB (c : Dev nD) (k : Fin 11) (h : ¬k.val < 8) :
    (rowsB (k.val - 8) (by omega)).view.read (Elt F) (stagedB X c) = pieceC X c (.inl k) := by
  have hk : k.val - 8 < 3 := by omega
  funext i
  have := place_b c k h
  show X c (ix (64 * (chunk (xp c) 8 % 32) + (((Rect.unit (s := S192x512) ![64 * (k.val - 8), 0] S64x512.size (rowsB_inb hk)).emb i) 0).val)
    (((Rect.unit (s := S192x512) ![64 * (k.val - 8), 0] S64x512.size (rowsB_inb hk)).emb i) 1)) = X (origin c (place c (.inl k))) _
  rw [origin_own, emb_row, emb_col]
  exact congrArg (X c) (ix_congr (by omega) _)

/-- The own half of the result is the input. -/
theorem outC_own (c : Dev nD) (i : S4096x512.Idx) (h : (i 0).val / 2048 = c.val / 8) : outC X c i = X c (ix (i 0).val (i 1)) := by
  unfold outC origin
  rw [if_pos (by omega)]

end Contents

end Cert.AllGather

end
-- ==== Proof.Protocol.lean ====
/-
# The protocol

Every device has one barrier semaphore, which its three partners signal once each, and for each of the 32 transfers a
semaphore counted at its departure and one counted at its arrival. A partner's signal on the barrier hands over the places
its transfers may be written to. A departure gives back the piece of memory the transfer was sent from; an arrival hands
over the place written, holding the chunk meant for it.

`St X K c n` is all a device holds before its `n`th step. It is a product, over the transfers and over the pieces of memory,
of assertions that depend on `n` only through the times of Mesh.lean; so a step changes the factors of one transfer.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Ring
public import Idealize.ShloMosaic.Lib.Tactic

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- A product over the transfers, direction by direction. -/
theorem bigSep_dir {M : Type} [URA M] (Φ : Fin 32 → sProp M) :
    (bigSep Finset.univ fun d : Fin 3 => bigSep (Finset.univ.filter fun t => dir t = d) Φ) = bigSep Finset.univ Φ := by
  simp only [bigSep_filter]
  rw [bigSep_univ_comm]
  refine bigSep_congr fun t _ => ?_
  rw [← bigSep_filter, Finset.filter_eq, if_pos (Finset.mem_univ _), bigSep_singleton]

/-! ## The cells -/

abbrev barS : Sem sig := (SemArray.scalar (sig.barrier 0 rfl) : Sems sig S_).sem

/-- The scoped semaphores: of the departures and arrivals; -/
abbrev osem (i : Bool × Fin 32) : SemLoc sig := .dma (xferS i)
/-- and with them (`none`) the barrier. -/
abbrev csem : Option (Bool × Fin 32) → SemLoc sig
  | none => .reg barS
  | some i => .dma (xferS i)
abbrev kcell (ck : Dev nD × Option (Bool × Fin 32)) : GSem nD τ sig := ((ck.1 : Thread nD τ), csem ck.2)

abbrev barCell (c : Dev nD) : GSem nD τ sig := ((c : Thread nD τ), .reg barS)
abbrev sendCell (c : Dev nD) (t : Fin 32) : GSem nD τ sig := ((c : Thread nD τ), .dma (xferS (false, t)))
abbrev recvCell (c : Dev nD) (t : Fin 32) : GSem nD τ sig := ((c : Thread nD τ), .dma (xferS (true, t)))

/-- What a transfer of one chunk adds to a semaphore. -/
abbrev N : ℕ := (rows 0 (by decide)).view.dmaCredit
theorem N_pos : 0 < N := View.dmaCredit_pos _ (by decide)

section Schedule
variable (X : Dev nD → S2048x512.Idx → Elt F .bf16)

/-- The place on device `c` that transfer `t` may be written to. -/
def slot (c : Dev nD) (t : Fin 32) : sProp 𝕄 :=
  iprop(∃ f : Buf (Elt F) ((land c t).view.loc (c : Thread nD τ)), (land c t).view.loc (c : Thread nD τ) ↦[(land c t).view.set]{fullShare} f)
/-- Those that the partner in direction `d` writes to. -/
def slots (d : Fin 3) (c : Dev nD) : sProp 𝕄 := bigSep (Finset.univ.filter fun t => dir t = d) (slot c)
/-- A piece of memory holding what is sent from it. -/
def piece (c : Dev nD) (s : Piece) : sProp 𝕄 := owns (c : Thread nD τ) (pieceM c s) (pieceQ s) (pieceC X c s)
/-- The place of transfer `t` after its arrival. -/
def arrived (c : Dev nD) (t : Fin 32) : sProp 𝕄 := owns (c : Thread nD τ) (land c t) fullShare (block X c (chunk c t))

instance slot_storable (c : Dev nD) (t : Fin 32) : BI.Storable (upEmb : UEmb _ 𝕄) (slot (F := F) c t) := by unfold slot; infer_instance
instance slots_storable (d : Fin 3) (c : Dev nD) : BI.Storable (upEmb : UEmb _ 𝕄) (slots (F := F) d c) := by unfold slots; infer_instance
instance piece_storable (c : Dev nD) (s : Piece) : BI.Storable (upEmb : UEmb _ 𝕄) (piece X c s) := by unfold piece; infer_instance
instance arrived_storable (c : Dev nD) (t : Fin 32) : BI.Storable (upEmb : UEmb _ 𝕄) (arrived X c t) := by unfold arrived; infer_instance

def dutiesOf : SemLoc sig → Finset (Fin 3)
  | .reg s => if s = barS then Finset.univ else ∅
  | .dma q => if (role q).isSome then {0} else ∅
def amountOf : SemLoc sig → ℕ
  | .reg _ => 1
  | .dma _ => N
def payOf (c : Dev nD) (d : Fin 3) : SemLoc sig → sProp 𝕄
  | .reg _ => slots d (peer d c)
  | .dma q => match role q with
    | some (false, t) => piece X c (source t)
    | some (true, t) => arrived X c t
    | none => iprop(emp)

instance payOf_storable (c : Dev nD) (d : Fin 3) (sm : SemLoc sig) : BI.Storable (upEmb : UEmb _ 𝕄) (payOf X c d sm) := by
  unfold payOf; (repeat' split) <;> infer_instance

/-- Each cell is used in one round. -/
def rd : Rounds.Schedule (GSem nD τ sig) (Fin 3) 𝕄 where
  duties g r := if r = 0 ∧ g.1.2 = .tc then dutiesOf g.2 else ∅
  unitless _ := False
  amount g _ _ := amountOf g.2
  payload g _ d := payOf X g.1.1 d g.2
  amount_pos g _ _ _ := by
    rcases g with ⟨_, s | q⟩
    · exact Nat.one_pos
    · exact N_pos

instance rd_payload_storable (g : GSem nD τ sig) (r : ℕ) (d : Fin 3) :
    BI.Storable (upEmb : UEmb _ 𝕄) ((rd X).payload g r d) := payOf_storable X g.1.1 d g.2

theorem duties_first (c : Dev nD) (sm : SemLoc sig) : (rd X).duties ((c : Thread nD τ), sm) 0 = dutiesOf sm := by
  dsimp only [rd]; exact if_pos ⟨rfl, rfl⟩
theorem duties_bar (c : Dev nD) : (rd X).duties (barCell c) 0 = Finset.univ :=
  (duties_first X c _).trans (by unfold dutiesOf; exact if_pos rfl)
theorem duties_xfer (c : Dev nD) (i : Bool × Fin 32) : (rd X).duties ((c : Thread nD τ), .dma (xferS i)) 0 = {0} :=
  (duties_first X c _).trans (by unfold dutiesOf; exact if_pos (by rw [role_xferS]; rfl))
theorem duties_later (g : GSem nD τ sig) : ∀ r, 1 ≤ r → (rd X).duties g r = ∅ :=
  fun r hr => if_neg fun h => by omega

theorem amount_bar (c : Dev nD) (d : Fin 3) : (rd X).amount (barCell c) 0 d = 1 := rfl
theorem amount_xfer (c : Dev nD) (q : DmaSem sig) (d : Fin 3) : (rd X).amount ((c : Thread nD τ), .dma q) 0 d = N := rfl

theorem expect_bar (c : Dev nD) : (rd X).expect (barCell c) 0 = 3 := by
  unfold Schedule.expect Schedule.amountOf
  rw [duties_bar, Finset.sum_congr rfl fun d _ => amount_bar X c d]; rfl
theorem expect_xfer (c : Dev nD) (i : Bool × Fin 32) : (rd X).expect ((c : Thread nD τ), .dma (xferS i)) 0 = N := by
  unfold Schedule.expect Schedule.amountOf; rw [duties_xfer, Finset.sum_singleton, amount_xfer]

theorem payload_bar (c : Dev nD) (d : Fin 3) : (rd X).payload (barCell c) 0 d = slots d (peer d c) := rfl
theorem payload_send (c : Dev nD) (t : Fin 32) (d : Fin 3) : (rd X).payload (sendCell c t) 0 d = piece X c (source t) := by
  show (match role (xferS (false, t)) with | some (false, t) => piece X c (source t) | some (true, t) => arrived X c t | none => iprop(emp)) = _
  rw [role_xferS]
theorem payload_recv (c : Dev nD) (t : Fin 32) (d : Fin 3) : (rd X).payload (recvCell c t) 0 d = arrived X c t := by
  show (match role (xferS (true, t)) with | some (false, t) => piece X c (source t) | some (true, t) => arrived X c t | none => iprop(emp)) = _
  rw [role_xferS]

theorem rest_send (c : Dev nD) (t : Fin 32) :
    bigSep ((rd X).duties (sendCell c t) 0 \ ∅) (fun d => (rd X).payload (sendCell c t) 0 d) = piece X c (source t) := by
  rw [Finset.sdiff_empty, duties_xfer, bigSep_singleton, payload_send]
theorem rest_recv (c : Dev nD) (t : Fin 32) :
    bigSep ((rd X).duties (recvCell c t) 0 \ ∅) (fun d => (rd X).payload (recvCell c t) 0 d) = arrived X c t := by
  rw [Finset.sdiff_empty, duties_xfer, bigSep_singleton, payload_recv]

/-- The three partners together hand over the place of every transfer. -/
theorem rest_bar (c : Dev nD) :
    bigSep ((rd X).duties (barCell c) 0 \ ∅) (fun d => (rd X).payload (barCell c) 0 d) = bigSep Finset.univ fun t => slot (F := F) (dst c t) t := by
  rw [Finset.sdiff_empty, duties_bar]
  refine Eq.trans (bigSep_congr fun d _ => ?_) (bigSep_dir fun t => slot (F := F) (dst c t) t)
  rw [payload_bar]
  exact bigSep_congr fun t ht => by rw [← (Finset.mem_filter.mp ht).2]

end Schedule

/-! ## What a device owes, and the levels -/

/-- Before step `n` a device owes the arrivals of what it has still to send; -/
def owedAt (c : Dev nD) (n : ℕ) : CellTallies nD τ sig Unit :=
  ∑ t ∈ Finset.univ.filter (fun t => n ≤ sendT t), tallyAt (recvCell (dst c t) t) () N
/-- and at launch one signal to each partner as well. -/
def O₀ (c : Dev nD) : CellTallies nD τ sig Unit :=
  ((owedAt c 0 + tallyAt (barCell (zp c)) () 1) + tallyAt (barCell (yp c)) () 1) + tallyAt (barCell (xp c)) () 1

def L (g : GSem nD τ sig) : Finset Unit := if g.1.2 = .tc then {()} else ∅
def levelOf : SemLoc sig → ℕ
  | .reg _ => 1
  | .dma q => match role q with
    | some (true, t) => level t
    | _ => 0
def lv (g : GSem nD τ sig) (_ : Unit) : ℕ := levelOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (t : Fin 32) : lv (recvCell c t) () = level t := by
  show (match role (xferS (true, t)) with | some (true, t) => level t | _ => 0) = _
  rw [role_xferS]

theorem owedAt_pos {c : Dev nD} {n : ℕ} {g : GSem nD τ sig} {u : Unit} (h : 0 < owedAt c n g u) :
    ∃ t, n ≤ sendT t ∧ g = recvCell (dst c t) t := by
  unfold owedAt at h
  rw [Finset.sum_apply, Finsupp.finset_sum_apply] at h
  obtain ⟨t, ht, hp⟩ := Finset.exists_ne_zero_of_sum_ne_zero (Nat.pos_iff_ne_zero.mp h)
  refine ⟨t, (Finset.mem_filter.mp ht).2, ?_⟩
  rw [tallyAt_apply] at hp
  by_contra hn
  exact hp (if_neg fun h' => hn h'.1)

theorem owedAt_send {n : ℕ} {t : Fin 32} (h : act n = .send t) (c : Dev nD) :
    owedAt c n = owedAt c (n + 1) + tallyAt (recvCell (dst c t) t) () N := by
  have hs := sendT_eq h
  have e : (Finset.univ.filter fun t' => n ≤ sendT t') = insert t (Finset.univ.filter fun t' => n + 1 ≤ sendT t') := by
    ext t'
    simp only [Finset.mem_filter, Finset.mem_univ, true_and, Finset.mem_insert]
    constructor
    · intro hle
      rcases Nat.eq_or_lt_of_le hle with he | hl
      · left
        have := act_sendT t'
        rw [← he, h] at this
        exact (Act.send.inj this).symm
      · right; omega
    · rintro (rfl | hle) <;> omega
  unfold owedAt
  rw [e, Finset.sum_insert (by simp only [Finset.mem_filter, Finset.mem_univ, true_and]; omega), add_comm]

theorem owedAt_skip {n : ℕ} (h : ∀ t, act n ≠ .send t) (c : Dev nD) : owedAt c n = owedAt c (n + 1) := by
  unfold owedAt
  congr 1
  ext t
  simp only [Finset.mem_filter, Finset.mem_univ, true_and]
  have : sendT t ≠ n := fun e => h t (e ▸ act_sendT t)
  omega

theorem owedAt_left {n : ℕ} {t : Fin 32} (h : act n = .left t) (c : Dev nD) : owedAt c n = 0 := by
  unfold owedAt
  refine Finset.sum_eq_zero fun t' ht' => ?_
  have h1 := (Finset.mem_filter.mp ht').2
  have h2 := sendT_lt_leftT t' t
  rw [leftT_eq h] at h2
  omega

theorem owedAt_end (c : Dev nD) : owedAt c total = 0 := by
  unfold owedAt
  refine Finset.sum_eq_zero fun t' ht' => ?_
  have h1 := (Finset.mem_filter.mp ht').2
  have h2 := sendT_lt t'
  omega

/-- A device may wait for arrival `t`: whatever it still owes then arrives further along; -/
theorem mayWait_recv {n : ℕ} {t : Fin 32} (h : act n = .recv t) (c : Dev nD) :
    (levAts L lv : sProp 𝕄) ⊢ MayWait (c : Thread nD τ) (.dma (xferS (true, t))) () (owedAt c n) :=
  MayOwe.of_cut (L := L) (lev := lv) (level t) (fun p hp => by rw [Finset.mem_singleton.mp hp, L_tc]; exact Finset.mem_singleton_self _)
    (fun g u hg => by obtain ⟨t', _, rfl⟩ := owedAt_pos hg; rw [L_tc]; exact Finset.mem_singleton_self _)
    (fun p hp => by rw [Finset.mem_singleton.mp hp]; exact le_of_eq (lv_recv c t))
    (fun g u hg => by
      obtain ⟨t', ht', rfl⟩ := owedAt_pos hg
      rw [lv_recv]
      exact level_lt t t' (by rw [recvT_eq h]; exact ht'))

/-- and for its barrier. -/
theorem mayWait_bar (c : Dev nD) : (levAts L lv : sProp 𝕄) ⊢ MayWait (c : Thread nD τ) (.reg barS) () (owedAt c 0) :=
  MayOwe.of_cut (L := L) (lev := lv) 1 (fun p hp => by rw [Finset.mem_singleton.mp hp, L_tc]; exact Finset.mem_singleton_self _)
    (fun g u hg => by obtain ⟨t', _, rfl⟩ := owedAt_pos hg; rw [L_tc]; exact Finset.mem_singleton_self _)
    (fun p hp => by rw [Finset.mem_singleton.mp hp]; exact le_rfl)
    (fun g u hg => by
      obtain ⟨t', ht', rfl⟩ := owedAt_pos hg
      rw [lv_recv]
      exact (by decide : ∀ t, 1 < level t) t')

theorem O₀_pos {c : Dev nD} {g : GSem nD τ sig} {u : Unit} (h : 0 < O₀ c g u) :
    (∃ t, g = recvCell (dst c t) t) ∨ ∃ c', g = barCell c' := by
  unfold O₀ at h
  simp only [Pi.add_apply, Finsupp.add_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩)] at h
  obtain ⟨t, _, ht⟩ := owedAt_pos (c := c) (n := 0) (g := g) (u := u) (by omega)
  exact hn.1 ⟨t, ht⟩

/-- The staging of the arguments may be waited for at any time. -/
theorem mayWait_stage (c : Dev nD) (q : DmaSem sig) (hq : role q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨c', rfl⟩ <;> (rw [L_tc]; exact Finset.mem_singleton_self _))
      (fun p hp => by
        rw [Finset.mem_singleton.mp hp]
        show (match role q with | some (true, t) => level t | _ => 0) ≤ 0
        rw [hq])
      (fun g u hg => by
        rcases O₀_pos hg with ⟨t, rfl⟩ | ⟨c', rfl⟩
        · rw [lv_recv]; exact (by decide : ∀ t, 0 < level t) t
        · exact Nat.one_pos)
  · rw [MayWait_zero]; iintro -; iempintro

/-! ## The state before a step -/

section State
variable (X : Dev nD → S2048x512.Idx → Elt F .bf16) (K : Dev nD × Option (Bool × Fin 32) → ℕ) (c : Dev nD) (n : ℕ)

/-- The invariant of every cell of every device, and that its round has begun. -/
def records : sProp 𝕄 :=
  bigSep Finset.univ fun ck : Dev nD × Option (Bool × Fin 32) => iprop(cellInv ER (rd X) (K ck) (kcell ck) ∗ reached ER (kcell ck) 0)

instance records_persistent : BI.Persistent (records X K) := by unfold records; infer_instance

theorem records_at (ck : Dev nD × Option (Bool × Fin 32)) :
    records X K ⊢ iprop(cellInv ER (rd X) (K ck) (kcell ck) ∗ reached ER (kcell ck) 0) := by
  unfold records; exact bigSep_elim (Finset.mem_univ ck)

/-- Transfer `t` on the sender's side: to be sent, on its way, gone. -/
def txAt (t : Fin 32) : sProp 𝕄 :=
  if n ≤ sendT t then
    iprop(dutyTok ER (sendCell c t) 0 0 ∗ atPos ER (sendCell c t) 0 ∅ 0 ∗ dutyTok ER (recvCell (dst c t) t) 0 0 ∗ slot (dst c t) t)
  else if n ≤ leftT t then iprop(atPos ER (sendCell c t) 0 ∅ 0 ∗ cred (tallyAt (sendCell c t) () N))
  else semVal (sendCell c t) 0
/-- Transfer `t` on the receiver's side: expected, or arrived. -/
def rxAt (t : Fin 32) : sProp 𝕄 :=
  if n ≤ recvT t then iprop(atPos ER (recvCell c t) 0 ∅ 0 ∗ cred (tallyAt (recvCell c t) () N))
  else semVal (recvCell c t) 0

/-- Whether the device holds a piece: what arrives has arrived, and no transfer from it is on its way. -/
def holds (s : Piece) : Prop := (∀ r b, s = .inr (r, b) → recvT r < n) ∧ ∀ t, source t = s → ¬(sendT t < n ∧ n ≤ leftT t)

open Classical in
def pcAt (s : Piece) : sProp 𝕄 := if holds n s then piece X c s else iprop(emp)

/-- The device's own half of the result. -/
theorem half_inb : ∀ a, (![2048 * (c.val / 8), 0] : Fin 2 → ℕ) a + S2048x512.size a ≤ S4096x512.size a := by
  have := c.isLt
  intro a; fin_cases a
  · show 2048 * (c.val / 8) + 2048 ≤ 4096; have : c.val < 16 := c.isLt; omega
  · show 0 + 512 ≤ 512; omega
abbrev halfR : Rect S4096x512 := Rect.unit (s := S4096x512) ![2048 * (c.val / 8), 0] S2048x512.size (half_inb c)

/-- The elements of the own half at contents `f`. -/
def half (f : S4096x512.Idx → Elt F .bf16) : sProp 𝕄 :=
  ((c : Thread nD τ).loc cc0_stg1_0) ↦[(outM.access (halfR c)).set]{fullShare} f
def ownAt : sProp 𝕄 :=
  iprop(semVal (barCell c) 0 ∗ (((c : Thread nD τ).loc cc0_stg0_0) ↦{fullShare} X c)
    ∗ if n ≤ storeT then iprop(∃ f, half c f) else half c (outC X c))

def St : sProp 𝕄 :=
  iprop(records X K ∗ levAts L lv ∗ (∃ W, owes (c : Thread nD τ) (owedAt c n) W) ∗ bigSep Finset.univ (txAt (F := F) c n) ∗ bigSep Finset.univ (rxAt (F := F) c n)
    ∗ bigSep Finset.univ (pcAt X c n) ∗ ownAt X c n)

end State

end Cert.AllGather

end
-- ==== Proof.Memory.lean ====
/-
# Cutting the buffers into pieces

The result is cut into the device's own half and the places of the 32 transfers, the two staging buffers into the chunks sent
from them; at the end the same pieces are put together again.
-/
module

public import proofs.«01_k».proof.Proof.Protocol

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Ring (pointsTo_blocks pointsTo_blocks_join_exists)

variable {F : FTy → Type} [FloatOps F]

local notation "𝕄" => MT nD τ sig Unit (Elt F) ℕ UU ℕ

/-! ## Which elements a block of rows has -/

theorem mem_block {N h b : ℕ} (hh : 0 < h) (inb : ∀ a, (![h * b, 0] : Fin 2 → ℕ) a + (⟨2, ![h, 512]⟩ : Shape).size a ≤ (⟨2, ![N, 512]⟩ : Shape).size a)
    (i : (⟨2, ![N, 512]⟩ : Shape).Idx) :
    i ∈ (Rect.unit (s := ⟨2, ![N, 512]⟩) ![h * b, 0] (⟨2, ![h, 512]⟩ : Shape).size inb).set ↔ (i 0).val / h = b := by
  rw [Rect.mem_set_unit]
  constructor
  · intro H
    have h0 : h * b ≤ (i 0).val ∧ (i 0).val < h * b + h := H 0
    exact Nat.div_eq_of_lt_le (by rw [mul_comm]; exact h0.1) (by rw [Nat.succ_mul, mul_comm b]; exact h0.2)
  · rintro rfl a
    fin_cases a
    · exact ⟨Nat.mul_div_le _ _, by have := Nat.lt_mul_div_succ (i 0).val hh; rw [Nat.mul_succ] at this; exact this⟩
    · exact ⟨Nat.zero_le _, by show (i 1).val < 0 + 512; have : (i 1).val < 512 := (i 1).isLt; omega⟩

theorem mem_rows {b : ℕ} (h : b < 64) (i : S4096x512.Idx) : i ∈ (rows b h).view.set ↔ (i 0).val / 64 = b := by
  rw [show (rows b h).view.set = _ from View.set_slice_whole _ _]; exact mem_block (by decide) (rows_inb h) i
theorem mem_rowsA {b : ℕ} (h : b < 8) (i : S512x512.Idx) : i ∈ (rowsA b h).view.set ↔ (i 0).val / 64 = b := by
  rw [show (rowsA b h).view.set = _ from View.set_slice_whole _ _]; exact mem_block (by decide) (rowsA_inb h) i
theorem mem_rowsB {b : ℕ} (h : b < 3) (i : S192x512.Idx) : i ∈ (rowsB b h).view.set ↔ (i 0).val / 64 = b := by
  rw [show (rowsB b h).view.set = _ from View.set_slice_whole _ _]; exact mem_block (by decide) (rowsB_inb h) i
theorem mem_half (c : Dev nD) (i : S4096x512.Idx) : i ∈ (outM.access (halfR c)).set ↔ (i 0).val / 2048 = c.val / 8 := by
  rw [show (outM.access (halfR c)).set = _ from View.set_slice_whole _ _]; exact mem_block (by decide) (half_inb c) i

/-- A buffer cut by the value of a function. -/
theorem parts_disjoint {I T : Type} [DecidableEq I] (S : T → Finset I) (f : I → T) (h : ∀ t i, i ∈ S t ↔ f i = t) (t t' : T) (ht : t ≠ t') :
    Disjoint (S t) (S t') :=
  Finset.disjoint_left.mpr fun i hi hi' => ht (((h t i).mp hi).symm.trans ((h t' i).mp hi'))
theorem parts_cover {I T : Type} [DecidableEq I] [Fintype I] [Fintype T] (S : T → Finset I) (f : I → T) (h : ∀ t i, i ∈ S t ↔ f i = t) :
    Finset.univ.biUnion S = Finset.univ :=
  Finset.eq_univ_of_forall fun i => Finset.mem_biUnion.mpr ⟨f i, Finset.mem_univ _, (h _ i).mpr rfl⟩

variable (c : Dev nD)

/-! ## The result -/

/-- The own half, and the place of each transfer. -/
def outParts : Unit ⊕ Fin 32 → Finset (Idx ((c : Thread nD τ).loc cc0_stg1_0))
  | .inl _ => (outM.access (halfR c)).set
  | .inr t => (land c t).view.set

open Classical in
/-- The part an element lies in. -/
def outPart (i : S4096x512.Idx) : Unit ⊕ Fin 32 :=
  if h : (i 0).val / 64 / 32 = c.val / 8 then .inl ()
  else .inr (chunk_surj c ⟨(i 0).val / 64, by have : (i 0).val < 4096 := (i 0).isLt; omega⟩ h).choose

theorem mem_outParts (s : Unit ⊕ Fin 32) (i : S4096x512.Idx) : i ∈ outParts c s ↔ outPart c i = s := by
  have hq : (i 0).val / 64 / 32 = (i 0).val / 2048 := Nat.div_div_eq_div_mul _ _ _
  have hc := c.isLt
  unfold outPart
  rcases s with ⟨⟩ | t
  · refine (mem_half c i).trans ?_
    split_ifs with h
    · exact ⟨fun _ => rfl, fun _ => by omega⟩
    · exact ⟨fun e => absurd (hq.trans e) h, fun e => nomatch e⟩
  · refine (mem_rows (chunk_lt c t) i).trans ?_
    split_ifs with h
    · refine ⟨fun e => ?_, fun e => nomatch e⟩
      have := chunk_half c t
      rw [← e] at this
      have : c.val < 16 := hc
      omega
    · have hs := (chunk_surj c ⟨(i 0).val / 64, by have : (i 0).val < 4096 := (i 0).isLt; omega⟩ h).choose_spec
      constructor
      · intro e
        exact congrArg Sum.inr (chunk_inj c _ _ (hs.trans e))
      · intro e
        rw [← Sum.inr.inj e]; exact hs.symm

theorem out_cut (f : S4096x512.Idx → Elt F .bf16) :
    (((c : Thread nD τ).loc cc0_stg1_0) ↦{fullShare} f : sProp 𝕄)
      = iprop(half c f ∗ bigSep Finset.univ fun t : Fin 32 => (land c t).view.loc (c : Thread nD τ) ↦[(land c t).view.set]{fullShare} f) := by
  rw [pointsTo_blocks (outParts c) (parts_disjoint _ (outPart c) (mem_outParts c)) (parts_cover _ (outPart c) (mem_outParts c)), bigSep_univ_sum,
    Finset.univ_unique, bigSep_singleton]
  rfl

theorem out_slots (f : S4096x512.Idx → Elt F .bf16) :
    (((c : Thread nD τ).loc cc0_stg1_0) ↦{fullShare} f : sProp 𝕄) ⊢ iprop(half c f ∗ bigSep Finset.univ (slot (F := F) c)) := by
  rw [out_cut]
  refine BI.sep_mono_r (bigSep_mono fun t _ => ?_)
  show (_ : sProp 𝕄) ⊢ _
  unfold slot
  iintro H; iexists f; iexact H

variable (X : Dev nD → S2048x512.Idx → Elt F .bf16)

/-- A view that reads as contents `g` do holds `g` on its elements. -/
theorem owns_at {sh : Shape} (m : Memref sig .tc .vmem sh .bf16) (g : m.view.ty.Contents (Elt F)) {w : sh.Idx → Elt F .bf16}
    (hw : m.view.read (Elt F) g = w) :
    owns (c : Thread nD τ) m fullShare w ⊢ (m.view.loc (c : Thread nD τ) ↦[m.view.set]{fullShare} g : sProp 𝕄) := by
  unfold owns
  iintro ⟨%f, %hf, H⟩
  have e : ∀ i ∈ m.view.set, f i = g i := by
    intro i hi
    obtain ⟨x, -, rfl⟩ := Finset.mem_map.mp hi
    have := congrFun (hf.trans hw.symm) x
    unfold View.read at this
    exact (cast_inj _).mp this
  iapply (Entails.of_eq (pointsTo_congr e))
  iexact H

theorem out_whole : iprop(half c (outC X c) ∗ bigSep Finset.univ (arrived X c))
    ⊢ (((c : Thread nD τ).loc cc0_stg1_0) ↦{fullShare} outC X c : sProp 𝕄) := by
  rw [out_cut]
  refine BI.sep_mono_r (bigSep_mono fun t _ => ?_)
  unfold arrived
  exact owns_at c (land c t) (outC X c) (read_rows X c _ _)

/-! ## The staging buffers -/

abbrev aPart (i : S512x512.Idx) : Fin 8 := ⟨(i 0).val / 64, by have : (i 0).val < 512 := (i 0).isLt; omega⟩
abbrev bPart (i : S192x512.Idx) : Fin 3 := ⟨(i 0).val / 64, by have : (i 0).val < 192 := (i 0).isLt; omega⟩
abbrev aParts (k : Fin 8) : Finset (Idx ((c : Thread nD τ).loc cc0_scratch0)) := (rowsA k.val k.isLt).view.set
abbrev bParts (k : Fin 3) : Finset (Idx ((c : Thread nD τ).loc cc0_scratch1)) := (rowsB k.val k.isLt).view.set
theorem mem_aParts (k : Fin 8) (i : S512x512.Idx) : i ∈ aParts c k ↔ aPart i = k := (mem_rowsA k.isLt i).trans ⟨fun h => Fin.ext h, fun h => congrArg Fin.val h⟩
theorem mem_bParts (k : Fin 3) (i : S192x512.Idx) : i ∈ bParts c k ↔ bPart i = k := (mem_rowsB k.isLt i).trans ⟨fun h => Fin.ext h, fun h => congrArg Fin.val h⟩

/-- A product over the staged chunks, by the buffer they are in. -/
theorem bigSep_staged (Φ : Fin 11 → sProp 𝕄) :
    bigSep Finset.univ Φ = iprop((bigSep Finset.univ fun k : Fin 8 => Φ (Fin.castAdd 3 k)) ∗ bigSep Finset.univ fun k : Fin 3 => Φ (Fin.natAdd 8 k)) := by
  rw [bigSep_univ_equiv (finSumFinEquiv : Fin 8 ⊕ Fin 3 ≃ Fin 11), bigSep_univ_sum]; rfl

theorem piece_a (k : Fin 8) : piece X c (.inl (Fin.castAdd 3 k))
    = owns (c : Thread nD τ) (rowsA k.val k.isLt) fullShare ((rowsA k.val k.isLt).view.read (Elt F) (stagedA X c)) := by
  have e : staged (Fin.castAdd 3 k) = rowsA k.val k.isLt := dif_pos k.isLt
  show owns (c : Thread nD τ) (staged (Fin.castAdd 3 k)) fullShare _ = _
  rw [e]
  exact congrArg (owns (c : Thread nD τ) (rowsA k.val k.isLt) fullShare) (read_rowsA X c (Fin.castAdd 3 k) k.isLt).symm
theorem piece_b (k : Fin 3) : piece X c (.inl (Fin.natAdd 8 k))
    = owns (c : Thread nD τ) (rowsB k.val k.isLt) fullShare ((rowsB k.val k.isLt).view.read (Elt F) (stagedB X c)) := by
  have hk : ¬(Fin.natAdd 8 k).val < 8 := by show ¬8 + k.val < 8; omega
  have hb : ∀ (b : ℕ) (h : b < 3), b = k.val → ∀ w, (rowsB b h).view.read (Elt F) (stagedB X c) = w →
      rowsB b h = rowsB k.val k.isLt ∧ (rowsB k.val k.isLt).view.read (Elt F) (stagedB X c) = w :=
    fun b h e w r => by subst e; exact ⟨rfl, r⟩
  obtain ⟨e, r⟩ := hb _ _ (show (Fin.natAdd 8 k).val - 8 = k.val by show 8 + k.val - 8 = k.val; omega) _ (read_rowsB X c (Fin.natAdd 8 k) hk)
  show owns (c : Thread nD τ) (staged (Fin.natAdd 8 k)) fullShare _ = _
  have e' : staged (Fin.natAdd 8 k) = rowsB k.val k.isLt := (dif_neg hk).trans e
  rw [e']
  exact congrArg (owns (c : Thread nD τ) (rowsB k.val k.isLt) fullShare) r.symm

theorem staged_pieces :
    iprop((((c : Thread nD τ).loc cc0_scratch0) ↦{fullShare} stagedA X c) ∗ (((c : Thread nD τ).loc cc0_scratch1) ↦{fullShare} stagedB X c))
      ⊢ bigSep Finset.univ fun k : Fin 11 => piece X c (.inl k) := by
  rw [bigSep_staged]
  refine BI.sep_mono ?_ ?_
  · rw [pointsTo_blocks (aParts c) (parts_disjoint _ aPart (mem_aParts c)) (parts_cover _ aPart (mem_aParts c))]
    exact bigSep_mono fun k _ => (owns_intro (c : Thread nD τ) (rowsA k.val k.isLt) fullShare (stagedA X c)).trans (Entails.of_eq (piece_a c X k).symm)
  · rw [pointsTo_blocks (bParts c) (parts_disjoint _ bPart (mem_bParts c)) (parts_cover _ bPart (mem_bParts c))]
    exact bigSep_mono fun k _ => (owns_intro (c : Thread nD τ) (rowsB k.val k.isLt) fullShare (stagedB X c)).trans (Entails.of_eq (piece_b c X k).symm)

/-- What is owned is held at some contents. -/
theorem owns_some {sh : Shape} (m : Memref sig .tc .vmem sh .bf16) (w : sh.Idx → Elt F .bf16) :
    owns (c : Thread nD τ) m fullShare w
      ⊢ (iprop(∃ f : Buf (Elt F) (m.view.loc (c : Thread nD τ)), m.view.loc (c : Thread nD τ) ↦[m.view.set]{fullShare} f) : sProp 𝕄) := by
  unfold owns
  iintro ⟨%f, -, H⟩
  iexists f; iexact H

theorem pieces_staged : (bigSep Finset.univ fun k : Fin 11 => piece X c (.inl k))
    ⊢ (iprop((∃ f : Buf (Elt F) ((c : Thread nD τ).loc cc0_scratch0), ((c : Thread nD τ).loc cc0_scratch0) ↦{fullShare} f)
      ∗ ∃ f : Buf (Elt F) ((c : Thread nD τ).loc cc0_scratch1), ((c : Thread nD τ).loc cc0_scratch1) ↦{fullShare} f) : sProp 𝕄) := by
  rw [bigSep_staged]
  refine BI.sep_mono ?_ ?_
  · exact BI.Entails.trans (bigSep_mono fun k _ => by rw [piece_a]; exact owns_some c (rowsA k.val k.isLt) _)
      (pointsTo_blocks_join_exists (aParts c) (parts_disjoint _ aPart (mem_aParts c)) (parts_cover _ aPart (mem_aParts c)) (stagedA X c))
  · exact BI.Entails.trans (bigSep_mono fun k _ => by rw [piece_b]; exact owns_some c (rowsB k.val k.isLt) _)
      (pointsTo_blocks_join_exists (bParts c) (parts_disjoint _ bPart (mem_bParts c)) (parts_cover _ bPart (mem_bParts c)) (stagedB X c))

end Cert.AllGather

end
-- ==== Proof.Steps.lean ====
/-
# One step

Each theorem here runs one operation of the kernel from the state before its step to the state after it.
-/
module

public import proofs.«01_k».proof.Proof.Protocol

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2048x512.Idx → Elt F .bf16) (K : Dev nD × Option (Bool × Fin 32) → ℕ) (c : Dev nD) {n : ℕ}

/-! ## What a step leaves alone -/

theorem sendT_ne {t : Fin 32} (h : act n ≠ .send t) : sendT t ≠ n := fun e => h (e ▸ act_sendT t)
theorem leftT_ne {t : Fin 32} (h : act n ≠ .left t) : leftT t ≠ n := fun e => h (e ▸ act_leftT t)
theorem recvT_ne {t : Fin 32} (h : act n ≠ .recv t) : recvT t ≠ n := fun e => h (e ▸ act_recvT t)
theorem storeT_ne (h : act n ≠ .store) : storeT ≠ n := fun e => h (e ▸ act_storeT)

theorem le_succ_iff {a : ℕ} (h : a ≠ n) : (n + 1 ≤ a) = (n ≤ a) := propext (by omega)
theorem lt_succ_iff' {a : ℕ} (h : a ≠ n) : (a < n + 1) = (a < n) := propext (by omega)

theorem txAt_skip {t : Fin 32} (h₁ : act n ≠ .send t) (h₂ : act n ≠ .left t) : txAt (F := F) c (n + 1) t = txAt c n t := by
  unfold txAt; simp only [le_succ_iff (sendT_ne h₁), le_succ_iff (leftT_ne h₂)]
theorem rxAt_skip {t : Fin 32} (h : act n ≠ .recv t) : rxAt (F := F) c (n + 1) t = rxAt c n t := by
  unfold rxAt; simp only [le_succ_iff (recvT_ne h)]
theorem ownAt_skip (h : act n ≠ .store) : ownAt X c (n + 1) = ownAt X c n := by
  unfold ownAt; simp only [le_succ_iff (storeT_ne h)]
theorem pcAt_skip {s : Piece} (h₁ : ∀ t, source t = s → act n ≠ .send t ∧ act n ≠ .left t) (h₂ : ∀ r b, s = .inr (r, b) → act n ≠ .recv r) :
    pcAt X c (n + 1) s = pcAt X c n s := by
  have : holds (n + 1) s = holds n s := by
    unfold holds
    refine propext (and_congr (forall₃_congr fun r b e => ?_) (forall₂_congr fun t e => ?_))
    · rw [lt_succ_iff' (recvT_ne (h₂ r b e))]
    · rw [lt_succ_iff' (sendT_ne (h₁ t e).1), le_succ_iff (leftT_ne (h₁ t e).2)]
  unfold pcAt
  by_cases hh : holds n s
  · exact (if_pos (this ▸ hh)).trans (if_pos hh).symm
  · exact (if_neg (this ▸ hh)).trans (if_neg hh).symm

/-! ## Sending -/

theorem holds_send {t : Fin 32} (h : act n = .send t) : holds n (source t) :=
  ⟨fun r b e => by have := recvT_lt_sendT t r b e; rw [sendT_eq h] at this; exact this,
    fun t' e => by have := source_inj t' t e; subst this; rw [sendT_eq h]; omega⟩
theorem not_holds_send {t : Fin 32} (h : act n = .send t) : ¬holds (n + 1) (source t) := fun hh =>
  hh.2 t rfl ⟨by rw [sendT_eq h]; omega, by have := sendT_lt_leftT t t; rw [sendT_eq h] at this; exact this⟩

/-- Send transfer `t`. -/
theorem step_send {t : Fin 32} (h : act n = .send t) {c' : Dev nD} (hc : c' = dst c t)
    {src dt : Memref sig .tc .vmem S64x512 .bf16} (hs : src = pieceM c (source t)) (hd : dt = land (dst c t) t)
    {sS sR : DmaSem sig} (hS : sS = xferS (false, t)) (hR : sR = xferS (true, t))
    {hsc : dt.view.ref.isScScratch = false} {hsrc : src.view.WordExact} {hdst : dt.view.WordExact}
    {hsem : DmaTarget.Typed .vmem (.dma sR) (.remote (Dev.tc c' : Thread nD τ) dt (.dma sS) hsc)}
    {α : Type} {Q : α → sProp 𝕄} {k : PUnit → Prog (TpuEff nD τ sig (Elt F) Λ₀ .tc) α}
    (hk : St X K c (n + 1) ⊢ wp frame (wpE (defs₀ (F := F)) 𝒱₀ (c : Thread nD τ) none) Set.univ (k ⟨⟩) Q) :
    St X K c n ⊢ wp frame (wpE (defs₀ (F := F)) 𝒱₀ (c : Thread nD τ) none) Set.univ
      (.op (.enqueueDma src (.remote (Dev.tc c' : Thread nD τ) dt (.dma sS) hsc) (.dma sR) hsrc hdst hsem) k) Q := by
  subst hc hs hd hS hR
  have other (t') (ht : t' ≠ t) : txAt (F := F) c (n + 1) t' = txAt c n t' :=
    txAt_skip c (by rw [h]; exact fun e => ht (Act.send.inj e).symm) (by rw [h]; exact nofun)
  have otherP (s) (hs : s ≠ source t) : pcAt X c (n + 1) s = pcAt X c n s :=
    pcAt_skip X c (fun t' e => ⟨by rw [h]; exact fun e' => hs (by rw [Act.send.inj e', e]), by rw [h]; exact nofun⟩) (fun _ _ _ => by rw [h]; exact nofun)
  have hrx : (rxAt (F := F) c (n + 1)) = rxAt c n := funext fun t' => rxAt_skip c (by rw [h]; exact nofun)
  have hown : ownAt X c (n + 1) = ownAt X c n := ownAt_skip X c (by rw [h]; exact nofun)
  unfold St at hk ⊢
  rw [hrx, hown] at hk
  iintro ⟨#Hrec, #Hlev, ⟨%W, HO⟩, HT, HR, HP, HB⟩
  ihave H := (bigSep_univ_update (Φ := txAt (F := F) c n) (Ψ := txAt c (n + 1)) t other) $$ HT
  icases H with ⟨Ht, HT⟩
  ihave H := (bigSep_univ_update (Φ := pcAt X c n) (Ψ := pcAt X c (n + 1)) (source t) otherP) $$ HP
  icases H with ⟨Hp, HP⟩
  ihave Ht := (Entails.of_eq (show txAt (F := F) c n t = _ by unfold txAt; exact if_pos (le_of_eq (sendT_eq h).symm))) $$ Ht
  icases Ht with ⟨Hd1, Hat, Hd2, Hs⟩
  ihave Hp := (Entails.of_eq (show pcAt X c n (source t) = _ by unfold pcAt; exact if_pos (holds_send h))) $$ Hp
  unfold slot piece owns
  icases Hs with ⟨%fd, Hs⟩
  icases Hp with ⟨%fs, %hfs, Hp⟩
  ihave H := (records_at X K (c, some (false, t))) $$ Hrec
  icases H with ⟨#Hi1, #Hr1⟩
  ihave H := (records_at X K (dst c t, some (true, t))) $$ Hrec
  icases H with ⟨#Hi2, #Hr2⟩
  iapply (Rounds.wp_send_pointsTo 𝒱₀ ER (rd X) (c : Thread nD τ) none (κ₁ := K (c, some (false, t))) (κ₂ := K (dst c t, some (true, t)))
      (r₁ := 0) (r₂ := 0) (d₁ := 0) (d₂ := 0) (fd := fd) (fs := fs) (q := pieceQ (source t))
      (by rw [duties_xfer]; exact Finset.mem_singleton_self _) (by rw [duties_xfer]; exact Finset.mem_singleton_self _)
      () () N rfl (amount_xfer X c _ 0) (amount_xfer X (dst c t) _ 0) (owedAt c (n + 1)) (owedAt_send h c) (W := W)
      (by rw [payload_send]; unfold piece; rw [← hfs]; exact owns_intro _ _ _ fs)
      (by
        rw [payload_recv]; unfold arrived
        refine (owns_intro _ _ _ _).trans (Entails.of_eq ?_)
        rw [View.read_write_univ, hfs, piece_source])) $$ [HO Hd1 Hd2 Hs Hp]
  · isplitr; · iexact Hi1
    isplitr; · iexact Hi2
    isplitl [Hp]; · iexact Hp
    isplitl [Hs]; · iexact Hs
    isplitl [HO]; · iexact HO
    isplitl [Hd1]; · iexact Hd1
    isplitr; · iexact Hr1
    isplitl [Hd2]; · iexact Hd2
    iexact Hr2
  iintro ⟨Hc, HO⟩
  iapply hk
  isplitr; · iexact Hrec
  isplitr; · iexact Hlev
  isplitl [HO]; · iexists W; iexact HO
  isplitl [HT Hat Hc]
  · iapply HT
    iapply (Entails.of_eq (show iprop(atPos ER (sendCell c t) 0 ∅ 0 ∗ cred (tallyAt (sendCell c t) () N)) = txAt (F := F) c (n + 1) t by
      unfold txAt
      rw [if_neg (by rw [sendT_eq h]; omega), if_pos (by have := sendT_lt_leftT t t; rw [sendT_eq h] at this; exact this)]))
    isplitl [Hat] <;> iassumption
  isplitl [HR]; · iexact HR
  isplitl [HP]
  · iapply HP
    iapply (Entails.of_eq (show iprop(emp) = pcAt X c (n + 1) (source t) by unfold pcAt; exact (if_neg (not_holds_send h)).symm))
    iempintro
  iexact HB

/-! ## Waiting for a departure -/

theorem not_holds_left {t : Fin 32} (h : act n = .left t) : ¬holds n (source t) := fun hh =>
  hh.2 t rfl ⟨by have := sendT_lt_leftT t t; rw [leftT_eq h] at this; exact this, by rw [leftT_eq h]⟩
theorem holds_left {t : Fin 32} (h : act n = .left t) : holds (n + 1) (source t) :=
  ⟨fun r b e => by have h1 := recvT_lt_sendT t r b e; have h2 := sendT_lt_leftT t t; rw [leftT_eq h] at h2; omega,
    fun t' e => by have := source_inj t' t e; subst this; rw [leftT_eq h]; omega⟩

/-- Wait until transfer `t` has left: the piece it was sent from is back. -/
theorem step_left {t : Fin 32} (h : act n = .left t) {a b : Memref sig .tc .vmem S64x512 .bf16}
    {q : DmaSem sig} (hq : q = xferS (false, t)) {h₁ : a.view.WordExact} {h₂ : b.view.WordExact}
    {α : Type} {Q : α → sProp 𝕄} {k : PUnit → Prog (TpuEff nD τ sig (Elt F) Λ₀ .tc) α}
    (hk : St X K c (n + 1) ⊢ wp frame (wpE (defs₀ (F := F)) 𝒱₀ (c : Thread nD τ) none) Set.univ (k ⟨⟩) Q) :
    St X K c n ⊢ wp frame (wpE (defs₀ (F := F)) 𝒱₀ (c : Thread nD τ) none) Set.univ (.op (.waitDma2 q a b h₁ h₂) k) Q := by
  subst hq
  have other (t') (ht : t' ≠ t) : txAt (F := F) c (n + 1) t' = txAt c n t' :=
    txAt_skip c (by rw [h]; exact nofun) (by rw [h]; exact fun e => ht (Act.left.inj e).symm)
  have otherP (s) (hs : s ≠ source t) : pcAt X c (n + 1) s = pcAt X c n s :=
    pcAt_skip X c (fun t' e => ⟨by rw [h]; exact nofun, by rw [h]; exact fun e' => hs (by rw [Act.left.inj e', e])⟩) (fun _ _ _ => by rw [h]; exact nofun)
  have hrx : (rxAt (F := F) c (n + 1)) = rxAt c n := funext fun t' => rxAt_skip c (by rw [h]; exact nofun)
  have hown : ownAt X c (n + 1) = ownAt X c n := ownAt_skip X c (by rw [h]; exact nofun)
  unfold St at hk ⊢
  rw [hrx, hown, ← owedAt_skip (by rw [h]; exact nofun)] at hk
  iintro ⟨#Hrec, #Hlev, ⟨%W, HO⟩, HT, HR, HP, HB⟩
  ihave H := (bigSep_univ_update (Φ := txAt (F := F) c n) (Ψ := txAt c (n + 1)) t other) $$ HT
  icases H with ⟨Ht, HT⟩
  ihave H := (bigSep_univ_update (Φ := pcAt X c n) (Ψ := pcAt X c (n + 1)) (source t) otherP) $$ HP
  icases H with ⟨Hp, HP⟩
  ihave Ht := (Entails.of_eq (show txAt (F := F) c n t = _ by
    unfold txAt
    exact (if_neg (by have := sendT_lt_leftT t t; rw [leftT_eq h] at this; omega)).trans (if_pos (le_of_eq (leftT_eq h).symm)))) $$ Ht
  icases Ht with ⟨Hat, Hc⟩
  ihave H := (records_at X K (c, some (false, t))) $$ Hrec
  icases H with ⟨#Hi, -⟩
  iapply (Rounds.wp_wait_rest_token 𝒱₀ ER (rd X) (c : Thread nD τ) none (κ := K (c, some (false, t)))
      (wpE_waitDma2_eq 𝒱₀ (c : Thread nD τ) none Set.univ) (Set.mem_univ _) () (O := owedAt c n) (W := W) (R := 0) (m := 0) (T := ∅)
      (by rw [Nat.zero_add, expect_xfer])) $$ [Hc HO Hat]
  · isplitr; · iexact Hi
    isplitl [Hc]; · iexact Hc
    isplitl [HO]; · iexact HO
    isplitr; · rw [owedAt_left h, MayWait_zero]; iempintro
    iexact Hat
  iintro ⟨HO, Hat, -, Hpay⟩
  ihave Hpay := (Entails.of_eq (rest_send X c t)) $$ Hpay
  imod (Rounds.cell_close ER (rd X) (Set.mem_univ (K (c, some (false, t)))) (fun h => h) (R := 0 + 1) (duties_later X (sendCell c t))) $$ [Hat] with Hz
  · isplitr; · iexact Hi
    iexact Hat
  iapply hk
  isplitr; · iexact Hrec
  isplitr; · iexact Hlev
  isplitl [HO]; · iexists _; iexact HO
  isplitl [HT Hz]
  · iapply HT
    iapply (Entails.of_eq (show semVal (sendCell c t) 0 = txAt (F := F) c (n + 1) t by
      unfold txAt
      rw [if_neg (by have := sendT_lt_leftT t t; rw [leftT_eq h] at this; omega), if_neg (by rw [leftT_eq h]; omega)]))
    iexact Hz
  isplitl [HR]; · iexact HR
  isplitl [HP Hpay]
  · iapply HP
    iapply (Entails.of_eq (show piece X c (source t) = pcAt X c (n + 1) (source t) by unfold pcAt; exact (if_pos (holds_left h)).symm))
    iexact Hpay
  iexact HB

/-! ## Waiting for an arrival -/

theorem not_holds_recv {t : Fin 32} (h : act n = .recv t) (b : Bool) : ¬holds n (.inr (t, b)) := fun hh => by
  have := hh.1 t b rfl; rw [recvT_eq h] at this; exact Nat.lt_irrefl _ this
theorem holds_recv {t : Fin 32} (h : act n = .recv t) (b : Bool) : holds (n + 1) (.inr (t, b)) :=
  ⟨fun r b' e => by obtain ⟨rfl, rfl⟩ := Prod.mk.inj (Sum.inr.inj e); rw [recvT_eq h]; omega,
    fun t' e => by have := recvT_lt_sendT t' t b e; rw [recvT_eq h] at this; omega⟩

/-- Wait until transfer `t` has arrived: its chunk is there to be read, in two halves. -/
theorem step_recv {t : Fin 32} (h : act n = .recv t) {a b : Memref sig .tc .vmem S64x512 .bf16}
    {q : DmaSem sig} (hq : q = xferS (true, t)) {h₁ : a.view.WordExact} {h₂ : b.view.WordExact}
    {α : Type} {Q : α → sProp 𝕄} {k : PUnit → Prog (TpuEff nD τ sig (Elt F) Λ₀ .tc) α}
    (hk : St X K c (n + 1) ⊢ wp frame (wpE (defs₀ (F := F)) 𝒱₀ (c : Thread nD τ) none) Set.univ (k ⟨⟩) Q) :
    St X K c n ⊢ wp frame (wpE (defs₀ (F := F)) 𝒱₀ (c : Thread nD τ) none) Set.univ (.op (.waitDma2 q a b h₁ h₂) k) Q := by
  subst hq
  have other (t') (ht : t' ≠ t) : rxAt (F := F) c (n + 1) t' = rxAt c n t' :=
    rxAt_skip c (by rw [h]; exact fun e => ht (Act.recv.inj e).symm)
  have otherP (s) (hs : ∀ b, s ≠ .inr (t, b)) : pcAt X c (n + 1) s = pcAt X c n s :=
    pcAt_skip X c (fun t' e => ⟨by rw [h]; exact nofun, by rw [h]; exact nofun⟩) (fun r b e => by rw [h]; exact fun e' => hs b (by rw [Act.recv.inj e', e]))
  have htx : (txAt (F := F) c (n + 1)) = txAt c n := funext fun t' => txAt_skip c (by rw [h]; exact nofun) (by rw [h]; exact nofun)
  have hown : ownAt X c (n + 1) = ownAt X c n := ownAt_skip X c (by rw [h]; exact nofun)
  unfold St at hk ⊢
  rw [htx, hown, ← owedAt_skip (by rw [h]; exact nofun)] at hk
  iintro ⟨#Hrec, #Hlev, ⟨%W, HO⟩, HT, HR, HP, HB⟩
  ihave H := (bigSep_univ_update (Φ := rxAt (F := F) c n) (Ψ := rxAt c (n + 1)) t other) $$ HR
  icases H with ⟨Ht, HR⟩
  ihave H := (bigSep_univ_update (Φ := pcAt X c n) (Ψ := fun s => if s = .inr (t, false) then pcAt X c (n + 1) s else pcAt X c n s) (.inr (t, false))
    fun s hs => if_neg hs) $$ HP
  icases H with ⟨-, HP⟩
  ihave Ht := (Entails.of_eq (show rxAt (F := F) c n t = _ by unfold rxAt; exact if_pos (le_of_eq (recvT_eq h).symm))) $$ Ht
  icases Ht with ⟨Hat, Hc⟩
  ihave H := (records_at X K (c, some (true, t))) $$ Hrec
  icases H with ⟨#Hi, -⟩
  iapply (Rounds.wp_wait_rest_token 𝒱₀ ER (rd X) (c : Thread nD τ) none (κ := K (c, some (true, t)))
      (wpE_waitDma2_eq 𝒱₀ (c : Thread nD τ) none Set.univ) (Set.mem_univ _) () (O := owedAt c n) (W := W) (R := 0) (m := 0) (T := ∅)
      (by rw [Nat.zero_add, expect_xfer])) $$ [Hc HO Hat]
  · isplitr; · iexact Hi
    isplitl [Hc]; · iexact Hc
    isplitl [HO]; · iexact HO
    isplitr; · iapply (mayWait_recv h c); iexact Hlev
    iexact Hat
  iintro ⟨HO, Hat, -, Hpay⟩
  ihave Hpay := (Entails.of_eq (rest_recv X c t)) $$ Hpay
  imod (Rounds.cell_close ER (rd X) (Set.mem_univ (K (c, some (true, t)))) (fun h => h) (R := 0 + 1) (duties_later X (recvCell c t))) $$ [Hat] with Hz
  · isplitr; · iexact Hi
    iexact Hat
  unfold arrived
  ihave Hpay := (owns_halves (c : Thread nD τ) (land c t) fullShare (block X c (chunk c t))).1 $$ Hpay
  icases Hpay with ⟨Hl, Hr⟩
  have eP (b : Bool) : owns (c : Thread nD τ) (land c t) (pieceQ (.inr (t, b))) (block X c (chunk c t)) = pcAt X c (n + 1) (.inr (t, b)) := by
    unfold pcAt; exact (if_pos (holds_recv h b)).symm
  ihave HP := HP $$ [Hl]
  · rw [if_pos rfl, ← eP]; iexact Hl
  ihave H := (bigSep_univ_update (Φ := fun s => if s = .inr (t, false) then pcAt X c (n + 1) s else pcAt X c n s) (Ψ := pcAt X c (n + 1)) (.inr (t, true))
    fun s hs => by
      by_cases e : s = .inr (t, false)
      · rw [if_pos e]
      · rw [if_neg e]; exact otherP s fun b => by cases b <;> assumption) $$ HP
  icases H with ⟨-, HP⟩
  iapply hk
  isplitr; · iexact Hrec
  isplitr; · iexact Hlev
  isplitl [HO]; · iexists _; iexact HO
  isplitl [HT]; · iexact HT
  isplitl [HR Hz]
  · iapply HR
    iapply (Entails.of_eq (show semVal (recvCell c t) 0 = rxAt (F := F) c (n + 1) t by
      unfold rxAt; rw [if_neg (by rw [recvT_eq h]; omega)]))
    iexact Hz
  isplitl [HP Hr]
  · iapply HP
    rw [← eP]; iexact Hr
  iexact HB

end Cert.AllGather

end
-- ==== Proof.Parts.lean ====
/-
# The parts of the kernel

The kernel is printed in parts. Each of the parts after the barrier sends transfers and waits for them; its theorem says which
steps it takes.
-/
module

public import proofs.«01_k».proof.Proof.Steps

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program of the kernel with result in `α`. -/
abbrev Code (F : FTy → Type) (α : Type) : Type _ := Prog (TpuEff nD τ sig (Elt F) Λ₀ .tc) α

variable (X : Dev nD → S2048x512.Idx → Elt F .bf16) (K : Dev nD × Option (Bool × Fin 32) → ℕ) (c : Dev nD) {n a b e : ℕ} {α β : Type}

/-- The program takes device `c` from before step `a` to before step `b`. -/
def Runs (a b : ℕ) (p : Code F α) : Prop :=
  St X K c a ⊢ wp frame (wpE (defs₀ (F := F)) 𝒱₀ (c : Thread nD τ) none) Set.univ p (fun _ => St X K c b)

variable {X K c}

theorem Runs.pure (x : α) : Runs X K c a a (Pure.pure x) := by
  unfold Runs; rw [Prog.pure_eq_ret, wp_ret]; exact fupd_intro
theorem Runs.bind {p : Code F α} {k : α → Code F β} (hp : Runs X K c a b p) (hk : ∀ x, Runs X K c b e (k x)) : Runs X K c a e (p >>= k) := by
  unfold Runs; rw [wp_bind]; exact hp.trans (wp_mono frame _ _ fun x => hk x)

/-! ## One operation -/

/-- Send transfer `t`, to rows given by an offset. -/
theorem Runs.send (t : Fin 32) {dev : Dev nD → ℕ} (hlt : ∀ c, dev c < nD) (off : Dev nD → Fin 2 → ℕ) {inb} {p}
    {src : Memref sig .tc .vmem S64x512 .bf16} {sS sR : DmaSem sig} {hsc hsrc hdst hsem}
    (h : act n = .send t := by decide +kernel) (hc : ∀ c, (⟨dev c, hlt c⟩ : Dev nD) = dst c t := by decide +kernel)
    (ho : ∀ c, off c = ![64 * chunk (dst c t) t, 0] := by decide +kernel)
    (hs : src = pieceM c (source t) := by rfl) (hS : sS = xferS (false, t) := by rfl) (hR : sR = xferS (true, t) := by rfl) :
    Runs X K c n (n + 1) (F := F) (Prog.lift (TpuEff.enqueueDma src (.remote (Dev.tc (⟨dev c, hlt c⟩ : Dev nD) : Thread nD τ)
      (outM.slice (Rect.unit (s := S4096x512) (off c) S64x512.size inb) p) (.dma sS) hsc) (.dma sR) hsrc hdst hsem)) := by
  have ho := ho c
  revert inb p hsc hsrc hdst hsem
  generalize off c = o at ho
  subst hs ho
  intro inb p hsc hsrc hdst hsem
  refine step_send X K c h (hc c) rfl rfl hS hR ?_
  rw [wp_ret]; exact fupd_intro

/-- Forward transfer `t`: it lands in the rows it is sent from. -/
theorem Runs.fwd (t : Fin 32) {dev : Dev nD → ℕ} (hlt : ∀ c, dev c < nD) (off : Dev nD → Fin 2 → ℕ) {inb} {p}
    {sS sR : DmaSem sig} {hsc hsrc hdst hsem}
    (h : act n = .send t := by decide +kernel) (hc : ∀ c, (⟨dev c, hlt c⟩ : Dev nD) = dst c t := by decide +kernel)
    (ho : ∀ c, off c = ![64 * chunk (dst c t) t, 0] := by decide +kernel) (hf : source t = .inr (via t, decide (21 ≤ t.val)) := by rfl)
    (hS : sS = xferS (false, t) := by rfl) (hR : sR = xferS (true, t) := by rfl) :
    Runs X K c n (n + 1) (F := F) (Prog.lift (TpuEff.enqueueDma (outM.slice (Rect.unit (s := S4096x512) (off c) S64x512.size inb) p)
      (.remote (Dev.tc (⟨dev c, hlt c⟩ : Dev nD) : Thread nD τ) (outM.slice (Rect.unit (s := S4096x512) (off c) S64x512.size inb) p) (.dma sS) hsc)
      (.dma sR) hsrc hdst hsem)) := by
  refine Runs.send t hlt off h hc ho ?_ hS hR
  have ho : off c = ![64 * chunk c (via t), 0] := by rw [ho c, ← place_source c t, hf]; rfl
  rw [hf]
  clear hsc hsrc hdst hsem
  revert inb p
  generalize off c = o at ho
  subst ho
  intro inb p
  rfl

/-- Wait until transfer `t` has left. -/
theorem Runs.left (t : Fin 32) {a b : Memref sig .tc .vmem S64x512 .bf16} {q : DmaSem sig} {h₁ h₂}
    (h : act n = .left t := by decide +kernel) (hq : q = xferS (false, t) := by rfl) :
    Runs X K c n (n + 1) (F := F) (Prog.lift (TpuEff.waitDma2 q a b h₁ h₂)) := by
  refine step_left X K c h hq ?_
  rw [wp_ret]; exact fupd_intro
/-- Wait until transfer `t` has arrived. -/
theorem Runs.recv (t : Fin 32) {a b : Memref sig .tc .vmem S64x512 .bf16} {q : DmaSem sig} {h₁ h₂}
    (h : act n = .recv t := by decide +kernel) (hq : q = xferS (true, t) := by rfl) :
    Runs X K c n (n + 1) (F := F) (Prog.lift (TpuEff.waitDma2 q a b h₁ h₂)) := by
  refine step_recv X K c h hq ?_
  rw [wp_ret]; exact fupd_intro

/-! ## Copying the own half -/

theorem half_write (f : S4096x512.Idx → Elt F .bf16) :
    half c ((outM.access (halfR c)).write (Elt F) f (X c) Finset.univ) = half c (outC X c) := by
  unfold half
  refine pointsTo_congr fun i hi => ?_
  obtain ⟨j, -, rfl⟩ := Finset.mem_map.mp hi
  refine (View.write_emb_of_mem (v := outM.access (halfR c)) f (X c) (Finset.mem_univ j)).trans ?_
  have h0 : (((halfR c).emb j) 0).val = 2048 * (c.val / 8) + (j 0).val := show 2048 * (c.val / 8) + 1 * (j 0).val = _ by omega
  have h1 : ((halfR c).emb j) 1 = j 1 := Fin.ext (show 0 + 1 * (j 1).val = (j 1).val by omega)
  have hj : (j 0).val < 2048 := (j 0).isLt
  refine Eq.symm ((outC_own X c ((halfR c).emb j) (by rw [h0]; omega)).trans ?_)
  rw [h0, h1]
  exact congrArg (X c) ((ix_congr (r' := (j 0).val) (by omega) (j 1)).trans (ix_self j))

/-- Read the input, and write it over the own half of the result. -/
theorem Runs.store {off : Fin 2 → ℕ} {inb hl₁ hl₂ hx hm} (h : act n = .store) (ho : off = ![2048 * (c.val / 8), 0]) {k : Code F α}
    (hk : Runs X K c (n + 1) b k) :
    Runs X K c n b (F := F)
      (Prog.lift (TpuEff.load xM (Rect.unit (s := S2048x512) ![0, 0] S2048x512.size inb_S2048x512_S2048x512_0_0).toLoadRect hl₁) >>= fun v =>
        Prog.lift (TpuEff.load outM (Rect.unit (s := S4096x512) off S2048x512.size inb).toLoadRect hl₂) >>= fun _ =>
          Prog.lift (TpuEff.store outM (Rect.unit (s := S4096x512) off S2048x512.size inb) (k0_pay3 v) Finset.univ hx hm) >>= fun _ => k) := by
  subst ho
  have htx : (txAt (F := F) c (n + 1)) = txAt c n := funext fun t' => txAt_skip c (by rw [h]; exact nofun) (by rw [h]; exact nofun)
  have hrx : (rxAt (F := F) c (n + 1)) = rxAt c n := funext fun t' => rxAt_skip c (by rw [h]; exact nofun)
  have hpc : (pcAt X c (n + 1)) = pcAt X c n :=
    funext fun s => pcAt_skip X c (fun t' e => ⟨by rw [h]; exact nofun, by rw [h]; exact nofun⟩) (fun _ _ _ => by rw [h]; exact nofun)
  have hn := storeT_eq h
  unfold Runs St at hk ⊢
  rw [htx, hrx, hpc, ← owedAt_skip (by rw [h]; exact nofun)] at hk
  simp only [Prog.lift, Prog.bind_op, Prog.bind_ret]
  iintro ⟨#Hrec, #Hlev, HO, HT, HR, HP, HB⟩
  ihave HB := (Entails.of_eq (show ownAt X c n = _ by unfold ownAt; rw [if_pos (le_of_eq hn.symm)])) $$ HB
  icases HB with ⟨Hb, Hx, ⟨%f, Hh⟩⟩
  iapply (wp_load 𝒱₀ (c : Thread nD τ) none Set.univ (m := xM) (Finset.subset_univ _)) $$ Hx
  iintro Hx
  unfold half
  iapply (wp_load_rect 𝒱₀ (c : Thread nD τ) none Set.univ (m := outM) (r := halfR c) (Finset.Subset.refl _)) $$ Hh
  iintro Hh
  iapply (wp_store 𝒱₀ (c : Thread nD τ) none Set.univ (m := outM) (r := halfR c) (Mk := Finset.univ)
    (show (outM.access (halfR c)).setOn Finset.univ ⊆ (outM.access (halfR c)).set from Finset.Subset.refl _)) $$ Hh
  iintro Hh
  iapply hk
  isplitr; · iexact Hrec
  isplitr; · iexact Hlev
  isplitl [HO]; · iexact HO
  isplitl [HT]; · iexact HT
  isplitl [HR]; · iexact HR
  isplitl [HP]; · iexact HP
  ihave Hh := (Entails.of_eq ((congrArg (fun w => half c ((outM.access (halfR c)).write (Elt F) f w Finset.univ)) (pay_x X c)).trans (half_write f))) $$ [Hh]
  · unfold half; iexact Hh
  iapply (Entails.of_eq (show _ = ownAt X c (n + 1) by unfold ownAt; rw [if_neg (show ¬n + 1 ≤ storeT by omega)]))
  isplitl [Hb]; · iexact Hb
  isplitl [Hx]; · iexact Hx
  iexact Hh

/-! ## The parts -/

/-- A part of the kernel at the kernel's buffers and semaphores. -/
abbrev atBufs {β : Type _} (part : (m₀ : Memref sig .tc .vmem S2048x512 .bf16) → m₀.IsWhole → (m₁ : Memref sig .tc .vmem S4096x512 .bf16) → m₁.IsWhole →
    (m₂ : Memref sig .tc .vmem S512x512 .bf16) → m₂.IsWhole → (m₃ : Memref sig .tc .vmem S192x512 .bf16) → m₃.IsWhole →
    DmaSems sig S11 → DmaSems sig S11 → DmaSems sig S10 → DmaSems sig S10 → DmaSems sig S11 → DmaSems sig S11 → β) : β :=
  part xM (Memref.isWhole_whole _) outM (Memref.isWhole_whole _) aM (Memref.isWhole_whole _) bM (Memref.isWhole_whole _)
    cc0_scratch2 cc0_scratch3 cc0_scratch4 cc0_scratch5 cc0_scratch6 cc0_scratch7

variable (w₁ w₂ w₃ w₄ w₅ w₆ w₇ w₈ : BitVec 32)

theorem part4 : Runs X K c 0 3 (atBufs k0_part4 c w₁ w₂ w₃ w₄) := by
  rw [k0_part4_eq_skeleton]; unfold k0_part4_skel
  exact .bind (.send (tx 0) k0_dev4_lt (k0_off3 · 0#32)) fun _ =>
    .bind (.send (tx 1) k0_dev5_lt (k0_off3 · 64#32)) fun _ =>
    .bind (.send (tx 2) k0_dev6_lt (k0_off3 · 128#32)) fun _ => .pure _
theorem part5 : Runs X K c 3 5 (atBufs k0_part5 c w₁ w₂ w₃ w₄ w₅ w₆) := by
  rw [k0_part5_eq_skeleton]; unfold k0_part5_skel
  exact .bind (.send (tx 3) k0_dev7_lt (k0_off3 · 192#32)) fun _ =>
    .bind (.send (tx 4) k0_dev8_lt (k0_off3 · 256#32)) fun _ => .pure _
theorem part6 : Runs X K c 5 8 (atBufs k0_part6 c w₁ w₂ w₃ w₄ w₅) := by
  rw [k0_part6_eq_skeleton]; unfold k0_part6_skel
  exact .bind (.send (tx 5) k0_dev9_lt (k0_off3 · 320#32)) fun _ =>
    .bind (.send (tx 6) k0_dev10_lt (k0_off3 · 384#32)) fun _ =>
    .bind (.send (tx 7) k0_dev11_lt (k0_off3 · 448#32)) fun _ => .pure _
theorem part7 : Runs X K c 8 10 (atBufs k0_part7 c w₁ w₂ w₃ w₄ w₅ w₆) := by
  rw [k0_part7_eq_skeleton]; unfold k0_part7_skel
  exact .bind (.send (tx 8) k0_dev12_lt (k0_off4 · 0#32)) fun _ =>
    .bind (.send (tx 9) k0_dev13_lt (k0_off4 · 64#32)) fun _ => .pure _
theorem part8 : Runs X K c 10 13 (atBufs k0_part8 c w₁ w₂ w₃ w₄ w₅ w₆ w₇) := by
  rw [k0_part8_eq_skeleton]; unfold k0_part8_skel
  exact .bind (.send (tx 10) k0_dev14_lt (k0_off4 · 128#32)) fun _ =>
    .bind (.recv (tx 0)) fun _ =>
    .bind (.fwd (tz 0) k0_dev15_lt (k0_off5 · 0#32)) fun _ => .pure _
theorem part9 : Runs X K c 13 16 (atBufs k0_part9 c w₁ w₂ w₃ w₄ w₅ w₆ w₇ w₈) := by
  rw [k0_part9_eq_skeleton]; unfold k0_part9_skel
  exact .bind (.fwd (ty 0) k0_dev16_lt (k0_off5 · 0#32)) fun _ =>
    .bind (.recv (tx 1)) fun _ =>
    .bind (.fwd (tz 1) k0_dev17_lt (k0_off5 · 64#32)) fun _ => .pure _
theorem part10 : Runs X K c 16 19 (atBufs k0_part10 c w₁ w₂ w₃ w₄ w₅ w₆ w₇ w₈) := by
  rw [k0_part10_eq_skeleton]; unfold k0_part10_skel
  exact .bind (.fwd (ty 1) k0_dev18_lt (k0_off5 · 64#32)) fun _ =>
    .bind (.recv (tx 2)) fun _ =>
    .bind (.fwd (tz 2) k0_dev19_lt (k0_off5 · 128#32)) fun _ => .pure _
theorem part11 : Runs X K c 19 21 (atBufs k0_part11 c w₁ w₂ w₃ w₄ w₅ w₆ w₇) := by
  rw [k0_part11_eq_skeleton]; unfold k0_part11_skel
  exact .bind (.fwd (ty 2) k0_dev20_lt (k0_off5 · 128#32)) fun _ =>
    .bind (.recv (tx 3)) fun _ => .pure _
theorem part12 : Runs X K c 21 24 (atBufs k0_part12 c w₁ w₂ w₃ w₄ w₅ w₆) := by
  rw [k0_part12_eq_skeleton]; unfold k0_part12_skel
  exact .bind (.fwd (tz 3) k0_dev21_lt (k0_off5 · 192#32)) fun _ =>
    .bind (.fwd (ty 3) k0_dev22_lt (k0_off5 · 192#32)) fun _ =>
    .bind (.recv (tx 4)) fun _ => .pure _
theorem part13 : Runs X K c 24 27 (atBufs k0_part13 c w₁ w₂ w₃ w₄ w₅ w₆ w₇ w₈) := by
  rw [k0_part13_eq_skeleton]; unfold k0_part13_skel
  exact .bind (.fwd (tz 4) k0_dev23_lt (k0_off5 · 256#32)) fun _ =>
    .bind (.fwd (ty 4) k0_dev24_lt (k0_off5 · 256#32)) fun _ =>
    .bind (.recv (tx 5)) fun _ => .pure _
theorem part14 : Runs X K c 27 29 (atBufs k0_part14 c w₁ w₂ w₃ w₄ w₅ w₆ w₇ w₈) := by
  rw [k0_part14_eq_skeleton]; unfold k0_part14_skel
  exact .bind (.fwd (tz 5) k0_dev25_lt (k0_off5 · 320#32)) fun _ =>
    .bind (.fwd (ty 5) k0_dev26_lt (k0_off5 · 320#32)) fun _ => .pure _
theorem part15 : Runs X K c 29 32 (atBufs k0_part15 c w₁ w₂ w₃ w₄ w₅ w₆ w₇) := by
  rw [k0_part15_eq_skeleton]; unfold k0_part15_skel
  exact .bind (.recv (tx 6)) fun _ =>
    .bind (.fwd (tz 6) k0_dev27_lt (k0_off5 · 384#32)) fun _ =>
    .bind (.fwd (ty 6) k0_dev28_lt (k0_off5 · 384#32)) fun _ => .pure _
theorem part16 : Runs X K c 32 35 (atBufs k0_part16 c w₁ w₂ w₃ w₄ w₅ w₆ w₇) := by
  rw [k0_part16_eq_skeleton]; unfold k0_part16_skel
  exact .bind (.recv (tx 7)) fun _ =>
    .bind (.fwd (tz 7) k0_dev29_lt (k0_off5 · 448#32)) fun _ =>
    .bind (.fwd (ty 7) k0_dev30_lt (k0_off5 · 448#32)) fun _ => .pure _
theorem part17 : Runs X K c 35 38 (atBufs k0_part17 c w₁ w₂ w₃ w₄ w₅ w₆ w₇ w₈) := by
  rw [k0_part17_eq_skeleton]; unfold k0_part17_skel
  exact .bind (.recv (tz 3)) fun _ =>
    .bind (.fwd (ty 8) k0_dev31_lt (k0_off6 · 192#32)) fun _ =>
    .bind (.recv (tz 4)) fun _ => .pure _
theorem part18 : Runs X K c 38 40 (atBufs k0_part18 c w₁ w₂ w₃ w₄ w₅ w₆) := by
  rw [k0_part18_eq_skeleton]; unfold k0_part18_skel
  exact .bind (.fwd (ty 9) k0_dev32_lt (k0_off6 · 256#32)) fun _ =>
    .bind (.recv (tz 5)) fun _ => .pure _
theorem part19 : Runs X K c 40 43 (atBufs k0_part19 c w₁ w₂ w₃ w₄ w₅ w₆) := by
  rw [k0_part19_eq_skeleton]; unfold k0_part19_skel
  exact .bind (.fwd (ty 10) k0_dev33_lt (k0_off6 · 320#32)) fun _ =>
    .bind (.recv (ty 6)) fun _ =>
    .bind (.fwd (tz 8) k0_dev34_lt (k0_off7 · 384#32)) fun _ => .pure _
theorem part20 : Runs X K c 43 47 (atBufs k0_part20 c w₁ w₂ w₃ w₄ w₅ w₆) := by
  rw [k0_part20_eq_skeleton]; unfold k0_part20_skel
  exact .bind (.recv (ty 7)) fun _ =>
    .bind (.fwd (tz 9) k0_dev35_lt (k0_off7 · 448#32)) fun _ =>
    .store (by decide +kernel) (off8_eq c) <|
    .bind (.left (tx 0)) fun _ => .pure _
theorem part21 : Runs X K c 47 53 (atBufs k0_part21 c) := by
  rw [k0_part21_eq_skeleton]; unfold k0_part21_skel
  exact .bind (.left (tx 1)) fun _ =>
    .bind (.left (tx 2)) fun _ =>
    .bind (.left (tx 3)) fun _ =>
    .bind (.left (tx 4)) fun _ =>
    .bind (.left (tx 5)) fun _ =>
    .bind (.left (tx 6)) fun _ => .pure _
theorem part22 : Runs X K c 53 57 (atBufs k0_part22 c w₁ w₂ w₃) := by
  rw [k0_part22_eq_skeleton]; unfold k0_part22_skel
  exact .bind (.left (tx 7)) fun _ =>
    .bind (.left (tx 8)) fun _ =>
    .bind (.left (tx 9)) fun _ =>
    .bind (.left (tx 10)) fun _ => .pure _
theorem part23 : Runs X K c 57 61 (atBufs k0_part23 c w₁ w₂ w₃ w₄) := by
  rw [k0_part23_eq_skeleton]; unfold k0_part23_skel
  exact .bind (.recv (tx 8)) fun _ =>
    .bind (.recv (tx 9)) fun _ =>
    .bind (.recv (tx 10)) fun _ =>
    .bind (.left (tz 0)) fun _ => .pure _
theorem part24 : Runs X K c 61 65 (atBufs k0_part24 c w₁ w₂ w₃ w₄) := by
  rw [k0_part24_eq_skeleton]; unfold k0_part24_skel
  exact .bind (.recv (tz 0)) fun _ =>
    .bind (.left (tz 1)) fun _ =>
    .bind (.recv (tz 1)) fun _ =>
    .bind (.left (tz 2)) fun _ => .pure _
theorem part25 : Runs X K c 65 70 (atBufs k0_part25 c w₁ w₂ w₃ w₄ w₅) := by
  rw [k0_part25_eq_skeleton]; unfold k0_part25_skel
  exact .bind (.recv (tz 2)) fun _ =>
    .bind (.left (tz 3)) fun _ =>
    .bind (.left (tz 4)) fun _ =>
    .bind (.left (tz 5)) fun _ =>
    .bind (.left (tz 6)) fun _ => .pure _
theorem part26 : Runs X K c 70 74 (atBufs k0_part26 c w₁ w₂ w₃ w₄) := by
  rw [k0_part26_eq_skeleton]; unfold k0_part26_skel
  exact .bind (.recv (tz 6)) fun _ =>
    .bind (.left (tz 7)) fun _ =>
    .bind (.recv (tz 7)) fun _ =>
    .bind (.left (tz 8)) fun _ => .pure _
theorem part27 : Runs X K c 74 78 (atBufs k0_part27 c w₁ w₂ w₃ w₄ w₅ w₆ w₇) := by
  rw [k0_part27_eq_skeleton]; unfold k0_part27_skel
  exact .bind (.recv (tz 8)) fun _ =>
    .bind (.left (tz 9)) fun _ =>
    .bind (.recv (tz 9)) fun _ =>
    .bind (.left (ty 0)) fun _ => .pure _
theorem part28 : Runs X K c 78 82 (atBufs k0_part28 c w₁ w₂ w₃) := by
  rw [k0_part28_eq_skeleton]; unfold k0_part28_skel
  exact .bind (.recv (ty 0)) fun _ =>
    .bind (.left (ty 1)) fun _ =>
    .bind (.recv (ty 1)) fun _ =>
    .bind (.left (ty 2)) fun _ => .pure _
theorem part29 : Runs X K c 82 86 (atBufs k0_part29 c w₁ w₂ w₃) := by
  rw [k0_part29_eq_skeleton]; unfold k0_part29_skel
  exact .bind (.recv (ty 2)) fun _ =>
    .bind (.left (ty 3)) fun _ =>
    .bind (.recv (ty 3)) fun _ =>
    .bind (.left (ty 4)) fun _ => .pure _
theorem part30 : Runs X K c 86 91 (atBufs k0_part30 c w₁ w₂ w₃) := by
  rw [k0_part30_eq_skeleton]; unfold k0_part30_skel
  exact .bind (.recv (ty 4)) fun _ =>
    .bind (.left (ty 5)) fun _ =>
    .bind (.recv (ty 5)) fun _ =>
    .bind (.left (ty 6)) fun _ =>
    .bind (.left (ty 7)) fun _ => .pure _
theorem part31 : Runs X K c 91 96 (atBufs k0_part31 c w₁ w₂ w₃) := by
  rw [k0_part31_eq_skeleton]; unfold k0_part31_skel
  exact .bind (.left (ty 8)) fun _ =>
    .bind (.recv (ty 8)) fun _ =>
    .bind (.left (ty 9)) fun _ =>
    .bind (.recv (ty 9)) fun _ =>
    .bind (.left (ty 10)) fun _ => .pure _

end Cert.AllGather

end
-- ==== Proof.Entry.lean ====
/-
# The entry of the kernel

A device signals the barrier of each partner, handing over the places that partner writes to; stages the data for its x
partner; and waits for its own barrier, which brings the places it may write to. That is the state before step 0.
-/
module

public import proofs.«01_k».proof.Proof.Memory
public import proofs.«01_k».proof.Proof.Parts

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2048x512.Idx → Elt F .bf16) (K : Dev nD × Option (Bool × Fin 32) → ℕ) (c : Dev nD)

/-- What a signal to the partner in direction `d` takes. -/
def pass (d : Fin 3) : sProp 𝕄 := iprop(dutyTok ER (barCell (peer d c)) 0 d ∗ slots (F := F) d c)
/-- What a transfer will take, apart from its place. -/
def toSend (t : Fin 32) : sProp 𝕄 := iprop(dutyTok ER (sendCell c t) 0 0 ∗ atPos ER (sendCell c t) 0 ∅ 0 ∗ dutyTok ER (recvCell (dst c t) t) 0 0)

/-- What a device holds during the signals. -/
def during : sProp 𝕄 :=
  iprop(records X K ∗ levAts L lv ∗ atPos ER (barCell c) 0 ∅ 0 ∗ cred (tallyAt (barCell c) () 3)
    ∗ bigSep Finset.univ (toSend (F := F) c) ∗ bigSep Finset.univ (rxAt (F := F) c 0)
    ∗ (((c : Thread nD τ).loc cc0_stg0_0) ↦{fullShare} X c) ∗ (∃ f, half (F := F) c f)
    ∗ (∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

variable {X K c}

/-- A signal to a partner. -/
theorem signal (d : Fin 3) {dev : Dev nD → ℕ} (hlt : ∀ c, dev c < nD) {O O' : CellTallies nD τ sig Unit} {W : Waits sig Unit}
    (hc : ∀ c, (⟨dev c, hlt c⟩ : Dev nD) = peer d c) (hO : O' = O + tallyAt (barCell (peer d c)) () 1)
    {α : Type} {Q : α → sProp 𝕄} {k : PUnit → Code F α} :
    iprop(records X K ∗ pass c d ∗ owes (c : Thread nD τ) O' W)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (semSignalWord (⟨dev c, hlt c⟩ : Dev nD) barS 1#32 >>= k) Q) := by
  rw [hc c]
  subst hO
  simp only [semSignalWord, Prog.bind_op, Prog.bind_ret]
  unfold pass
  iintro ⟨#Hrec, ⟨Htok, Hs⟩, HO⟩ Hk
  ihave H := (records_at X K (peer d c, none)) $$ Hrec
  icases H with ⟨#Hi, #Hr⟩
  iapply (Rounds.wp_signal 𝒱₀ ER (rd X) (c : Thread nD τ) none (dst := (peer d c : Thread nD τ)) (κ := K (peer d c, none)) (d := d)
    (by rw [duties_bar]; exact Finset.mem_univ _) ((amount_bar X (peer d c) d).trans (by decide)) () O rfl) $$ [HO Htok Hs]
  · isplitr; · iexact Hi
    isplitl [HO]; · iexact HO
    isplitl [Htok]; · iexact Htok
    isplitl [Hs]; · rw [payload_bar, peer_peer]; iexact Hs
    iexact Hr
  iexact Hk

theorem zero2 : (![0, 0] : Fin 2 → ℕ) = fun _ => 0 := funext fun a => by fin_cases a <;> rfl

/-- A store over a whole staging buffer. -/
theorem write_a (f w : S512x512.Idx → Elt F .bf16) :
    (aM.access (Rect.unit (s := S512x512) ![0, 0] S512x512.size inb_S512x512_S512x512_0_0)).write (Elt F) f w Finset.univ = w :=
  Memref.write_access_unit_zero_univ (Elt F) cc0_scratch0 zero2 _ f w
theorem write_b (f w : S192x512.Idx → Elt F .bf16) :
    (bM.access (Rect.unit (s := S192x512) ![0, 0] S192x512.size inb_S192x512_S192x512_0_0)).write (Elt F) f w Finset.univ = w :=
  Memref.write_access_unit_zero_univ (Elt F) cc0_scratch1 zero2 _ f w

/-- At first the device holds the staged chunks, and nothing has arrived. -/
theorem pcAt_start : (bigSep Finset.univ fun k : Fin 11 => piece X c (.inl k)) ⊢ bigSep Finset.univ (pcAt X c 0) := by
  have hl (k : Fin 11) : pcAt X c 0 (.inl k) = piece X c (.inl k) := by
    unfold pcAt; exact if_pos ⟨fun _ _ e => (nomatch e), fun t _ h => by omega⟩
  have hr (i : Fin 32 × Bool) : pcAt X c 0 (.inr i) = BI.emp := by
    unfold pcAt; exact if_neg fun h => by have := h.1 i.1 i.2 rfl; omega
  rw [bigSep_univ_sum, bigSep_congr fun k _ => hl k, bigSep_congr fun i _ => hr i, bigSep_emp_const]
  show (_ : sProp 𝕄) ⊢ iprop(_ ∗ emp)
  iintro H
  isplitl [H]; · iexact H
  iempintro

/-- The tokens of the transfers and the places they may be written to are what the transfers take. -/
theorem txAt_start : iprop(bigSep Finset.univ (toSend (F := F) c) ∗ bigSep Finset.univ fun t => slot (F := F) (dst c t) t)
    ⊢ bigSep Finset.univ (txAt (F := F) c 0) := by
  rw [← bigSep_sep']
  refine bigSep_mono fun t _ => ?_
  rw [show txAt (F := F) c 0 t = _ by unfold txAt; exact if_pos (Nat.zero_le _)]
  unfold toSend
  show (_ : sProp 𝕄) ⊢ _
  iintro ⟨⟨H1, H2, H3⟩, H4⟩
  isplitl [H1]; · iexact H1
  isplitl [H2]; · iexact H2
  isplitl [H3] <;> iassumption

variable {W : Waits sig Unit}

theorem part1 {Q : _ → sProp 𝕄}
    (hQ : ∀ w₁ w₂ w₃ w₄ w₅ w₆ w₇ w₈ w₉, iprop(during X K c ∗ (pass c 1 ∗ pass c 2)
      ∗ owes (c : Thread nD τ) ((owedAt c 0 + tallyAt (barCell (zp c)) () 1) + tallyAt (barCell (yp c)) () 1) W)
        ⊢ Q ⟨c, w₁, w₂, w₃, w₄, w₅, w₆, w₇, SemArray.scalar (sig.barrier 0 rfl), w₈, w₉⟩) :
    iprop(during X K c ∗ (pass c 0 ∗ pass c 1 ∗ pass c 2) ∗ owes (c : Thread nD τ) (O₀ c) W)
      ⊢ wp frame (wpE (defs₀ (F := F)) 𝒱₀ (c : Thread nD τ) none) Set.univ (atBufs (k0_part1 (F := F))) Q := by
  rw [k0_part1_eq_skeleton]; unfold k0_part1_skel
  simp only [Prog.lift, Prog.bind_op, Prog.bind_ret, Prog.pure_eq_ret, wp_deviceId]
  iintro ⟨H, ⟨Hp, Hq⟩, HO⟩
  unfold during
  icases H with ⟨#Hrec, H⟩
  iapply (signal (X := X) (K := K) 0 k0_dev1_lt (by decide +kernel) (show O₀ c = _ from rfl)) $$ [Hp HO]
  · isplitr; · iexact Hrec
    isplitl [Hp] <;> iassumption
  iintro HO
  rw [wp_ret]; imodintro
  iapply (hQ _ _ _ _ _ _ _ _ _)
  unfold during
  isplitl [H]
  · isplitr; · iexact Hrec
    iexact H
  isplitl [Hq] <;> iassumption

theorem part2 {w₁ w₂ w₃ w₄ w₅ w₆ w₇ w₈ : BitVec 32} :
    iprop(during X K c ∗ (pass c 1 ∗ pass c 2)
      ∗ owes (c : Thread nD τ) ((owedAt c 0 + tallyAt (barCell (zp c)) () 1) + tallyAt (barCell (yp c)) () 1) W)
      ⊢ wp frame (wpE (defs₀ (F := F)) 𝒱₀ (c : Thread nD τ) none) Set.univ
        (atBufs (k0_part2 (F := F)) c w₁ w₂ w₃ w₄ w₅ w₆ (SemArray.scalar (sig.barrier 0 rfl)) w₇ w₈) fun _ => St X K c 0 := by
  rw [k0_part2_eq_skeleton]; unfold k0_part2_skel
  iintro ⟨H, ⟨Hp, Hq⟩, HO⟩
  unfold during
  icases H with ⟨#Hrec, #Hlev, Hat, Hc, HT, HR, Hx, Hh, ⟨%fa, Ha⟩, ⟨%fb, Hb⟩⟩
  iapply (signal (X := X) (K := K) 1 k0_dev2_lt (by decide +kernel) (O := owedAt c 0 + tallyAt (barCell (zp c)) () 1) rfl) $$ [Hp HO]
  · isplitr; · iexact Hrec
    isplitl [Hp]; · iexact Hp
    iexact HO
  iintro HO
  iapply (signal (X := X) (K := K) 2 k0_dev3_lt (by decide +kernel) (O := owedAt c 0) rfl) $$ [Hq HO]
  · isplitr; · iexact Hrec
    isplitl [Hq]; · iexact Hq
    iexact HO
  iintro HO
  simp only [semWaitWord, Prog.lift, Prog.bind_op, Prog.bind_ret, Prog.pure_eq_ret]
  iapply (wp_load 𝒱₀ (c : Thread nD τ) none Set.univ (m := xM) (Finset.subset_univ _)) $$ Hx; iintro Hx
  rw [pay_a X c]
  iapply (wp_load 𝒱₀ (c : Thread nD τ) none Set.univ (m := aM) (Finset.subset_univ _)) $$ Ha; iintro Ha
  iapply (wp_store 𝒱₀ (c : Thread nD τ) none Set.univ (m := aM) (r := Rect.unit (s := S512x512) ![0, 0] S512x512.size inb_S512x512_S512x512_0_0)
    (Mk := Finset.univ) (Finset.subset_univ _)) $$ Ha
  iintro Ha
  iapply (wp_load 𝒱₀ (c : Thread nD τ) none Set.univ (m := xM) (Finset.subset_univ _)) $$ Hx; iintro Hx
  rw [pay_b X c]
  iapply (wp_load 𝒱₀ (c : Thread nD τ) none Set.univ (m := bM) (Finset.subset_univ _)) $$ Hb; iintro Hb
  iapply (wp_store 𝒱₀ (c : Thread nD τ) none Set.univ (m := bM) (r := Rect.unit (s := S192x512) ![0, 0] S192x512.size inb_S192x512_S192x512_0_0)
    (Mk := Finset.univ) (Finset.subset_univ _)) $$ Hb
  iintro Hb
  rw [write_a, write_b]
  ihave H := (records_at X K (c, none)) $$ Hrec
  icases H with ⟨#Hi, -⟩
  iapply (Rounds.wp_wait_rest_token 𝒱₀ ER (rd X) (c : Thread nD τ) none (κ := K (c, none))
      (wpE_semWait_eq 𝒱₀ (c : Thread nD τ) none Set.univ) (Set.mem_univ _) () (O := owedAt c 0) (W := W) (R := 0) (m := 0) (T := ∅)
      (by rw [expect_bar]; decide)) $$ [Hc HO Hat]
  · isplitr; · iexact Hi
    isplitl [Hc]; · iexact Hc
    isplitl [HO]; · iexact HO
    isplitr; · iapply (mayWait_bar c); iexact Hlev
    iexact Hat
  iintro ⟨HO, Hat, -, Hpay⟩
  ihave Hpay := (Entails.of_eq (rest_bar X c)) $$ Hpay
  imod (Rounds.cell_close ER (rd X) (Set.mem_univ (K (c, none))) (fun h => h) (R := 0 + 1) (duties_later X (barCell c))) $$ [Hat] with Hz
  · isplitr; · iexact Hi
    iexact Hat
  rw [wp_ret]; imodintro
  unfold St ownAt
  rw [if_pos (Nat.zero_le _)]
  isplitr; · iexact Hrec
  isplitr; · iexact Hlev
  isplitl [HO]; · iexists _; iexact HO
  isplitl [HT Hpay]
  · iapply (txAt_start (F := F) (c := c))
    isplitl [HT] <;> iassumption
  isplitl [HR]; · iexact HR
  isplitl [Ha Hb]
  · iapply pcAt_start
    iapply (staged_pieces c X)
    isplitl [Ha]; · iexact Ha
    iexact Hb
  isplitl [Hz]; · iexact Hz
  isplitl [Hx] <;> iassumption

/-! ## The whole kernel -/

theorem part3 {w₁ w₂ w₃ w₄ w₅ w₆ w₇ : BitVec 32} : Runs X K c 0 0 (atBufs (k0_part3 (F := F)) w₁ w₂ w₃ w₄ w₅ w₆ w₇) := by
  rw [k0_part3_eq_skeleton]; unfold k0_part3_skel
  exact .pure _

/-- The kernel's body takes a device through all its steps. -/
theorem body : iprop(during X K c ∗ (pass c 0 ∗ pass c 1 ∗ pass c 2) ∗ owes (c : Thread nD τ) (O₀ c) W)
    ⊢ wp frame (wpE (defs₀ (F := F)) 𝒱₀ (c : Thread nD τ) none) Set.univ (atBufs (cc0_body (F := F))) fun _ => St X K c total := by
  rw [cc0_body_eq_skeleton]; unfold cc0_body_skel
  rw [wp_bind]
  refine part1 fun w₁ w₂ w₃ w₄ w₅ w₆ w₇ w₈ w₉ => ?_
  rw [wp_bind]
  refine part2.trans (wp_mono frame _ _ fun ⟨_, _⟩ => ?_)
  show Runs X K c 0 total _
  exact .bind part3 fun ⟨_, _, _, _, _⟩ => .bind (part4 _ _ _ _) fun ⟨_, _⟩ => .bind (part5 _ _ _ _ _ _) fun _ => .bind (part6 _ _ _ _ _) fun ⟨_, _⟩ => .bind (part7 _ _ _ _ _ _) fun _ =>
    .bind (part8 _ _ _ _ _ _ _) fun ⟨_, _⟩ => .bind (part9 _ _ _ _ _ _ _ _) fun _ => .bind (part10 _ _ _ _ _ _ _ _) fun _ => .bind (part11 _ _ _ _ _ _ _) fun _ =>
    .bind (part12 _ _ _ _ _ _) fun _ => .bind (part13 _ _ _ _ _ _ _ _) fun _ => .bind (part14 _ _ _ _ _ _ _ _) fun _ => .bind (part15 _ _ _ _ _ _ _) fun _ =>
    .bind (part16 _ _ _ _ _ _ _) fun ⟨_, _⟩ => .bind (part17 _ _ _ _ _ _ _ _) fun _ => .bind (part18 _ _ _ _ _ _) fun _ => .bind (part19 _ _ _ _ _ _) fun _ =>
    .bind (part20 _ _ _ _ _ _) fun _ => .bind part21 fun _ => .bind (part22 _ _ _) fun _ => .bind (part23 _ _ _ _) fun _ =>
    .bind (part24 _ _ _ _) fun ⟨_, _⟩ => .bind (part25 _ _ _ _ _) fun _ => .bind (part26 _ _ _ _) fun ⟨_, _⟩ => .bind (part27 _ _ _ _ _ _ _) fun _ =>
    .bind (part28 _ _ _) fun _ => .bind (part29 _ _ _) fun _ => .bind (part30 _ _ _) fun _ => .bind (part31 _ _ _) fun _ =>
    .bind (.recv (ty 10)) fun _ => .pure _

end Cert.AllGather

end
-- ==== Proof.Exit.lean ====
/-
# The end of the kernel

After the last step every transfer has left and arrived: all counters are zero, the pieces of memory are together again,
and the result is complete.
-/
module

public import proofs.«01_k».proof.Proof.Memory

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A product over the transfers' semaphores, and over all a device's semaphores. -/
theorem bigSep_xfer (Φ : Bool × Fin 32 → sProp 𝕄) :
    bigSep Finset.univ Φ = iprop((bigSep Finset.univ fun t => Φ (false, t)) ∗ bigSep Finset.univ fun t => Φ (true, t)) := by
  rw [bigSep_univ_prod, bigSep_univ_eq_bigSepL [false, true] (by decide) (by decide)]; rfl
theorem bigSep_cell (Φ : Option (Bool × Fin 32) → sProp 𝕄) :
    bigSep Finset.univ Φ = iprop(Φ none ∗ bigSep Finset.univ fun i => Φ (some i)) := by
  rw [bigSep_univ_at _ none, show (Finset.univ.erase none : Finset (Option (Bool × Fin 32))) = Finset.univ.map Function.Embedding.some from
    Finset.ext fun o => by cases o <;> simp, bigSep_map]
  rfl

variable (X : Dev nD → S2048x512.Idx → Elt F .bf16) (K : Dev nD × Option (Bool × Fin 32) → ℕ) (c : Dev nD)

theorem holds_end (s : Piece) : holds total s :=
  ⟨fun r _ _ => recvT_lt r, fun t _ h => by have := leftT_lt t; omega⟩

/-- The chunk that arrived, from the two halves of the right to read it. -/
theorem pieces_arrived (t : Fin 32) : (bigSep Finset.univ fun b => piece X c (.inr (t, b))) ⊢ arrived X c t := by
  rw [bigSep_univ_eq_bigSepL [false, true] (by decide) (by decide)]
  exact (owns_halves (c : Thread nD τ) (land c t) fullShare (block X c (chunk c t))).2

/-- What a device holds at the end, the counters apart. -/
def final : sProp 𝕄 :=
  iprop((((c : Thread nD τ).loc cc0_stg0_0) ↦{fullShare} X c) ∗ (((c : Thread nD τ).loc cc0_stg1_0) ↦{fullShare} outC X c)
    ∗ (∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

theorem state_end : St X K c total ⊢ iprop((bigSep Finset.univ fun k => semVal (kcell (c, k)) 0) ∗ final X c ∗ ∃ W, owes (c : Thread nD τ) 0 W) := by
  have htx : (txAt (F := F) c total) = fun t => semVal (sendCell c t) 0 := funext fun t => by
    unfold txAt
    exact (if_neg (Nat.not_le.mpr (sendT_lt t))).trans (if_neg (Nat.not_le.mpr (leftT_lt t)))
  have hrx : (rxAt (F := F) c total) = fun t => semVal (recvCell c t) 0 := funext fun t => by
    unfold rxAt; exact if_neg (Nat.not_le.mpr (recvT_lt t))
  have hpc : (pcAt X c total) = piece X c := funext fun s => by unfold pcAt; exact if_pos (holds_end s)
  have hs : bigSep Finset.univ (piece X c) = iprop((bigSep Finset.univ fun k : Fin 11 => piece X c (.inl k))
      ∗ bigSep Finset.univ fun t : Fin 32 => bigSep Finset.univ fun b : Bool => piece X c (.inr (t, b))) := by
    rw [bigSep_univ_sum, bigSep_univ_prod]; rfl
  unfold St ownAt final
  rw [htx, hrx, hpc, owedAt_end, if_neg (by decide : ¬total ≤ storeT), hs, bigSep_cell, bigSep_xfer]
  iintro ⟨-, -, HO, HT, HR, ⟨HS, HA⟩, Hb, Hx, Hh⟩
  isplitl [HT HR Hb]
  · isplitl [Hb]; · iexact Hb
    isplitl [HT] <;> iassumption
  isplitr [HO]
  · isplitl [Hx]; · iexact Hx
    isplitl [Hh HA]
    · iapply (out_whole c X)
      isplitl [Hh]; · iexact Hh
      iapply (show (bigSep Finset.univ fun t => bigSep Finset.univ fun b => piece X c (.inr (t, b))) ⊢ bigSep Finset.univ (arrived X c) from
        bigSep_mono fun t _ => pieces_arrived X c t)
      iexact HA
    · iapply (pieces_staged c X); iexact HS
  iexact HO

end Cert.AllGather

end
-- ==== Proof.Region.lean ====
/-
# The kernel at its one grid point

What a device holds before and after the kernel's body, and the body's obligation to the launch.
-/
module

public import proofs.«01_k».proof.Proof.Entry
public import proofs.«01_k».proof.Proof.Exit

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Ring (bigSep_fin3)

variable {F : FTy → Type} [FloatOps F]

local notation "𝕄" => MT nD τ sig Unit (Elt F) ℕ UU ℕ

variable (m : (ℓ : Loc nD τ sig) → Buf (Elt F) ℓ)

/-- The input of a device, as staged for its kernel. -/
def input (c : Dev nD) : S2048x512.Idx → Elt F .bf16 := (win0_0.blk (0 : Fin 1)).view.read (Elt F) (m ((c : Thread nD τ).loc main_arg0))

/-- The tokens a device pays with: its partners' barriers, its departures, its arrivals at the partners. -/
def tokens (c : Dev nD) : sProp 𝕄 :=
  iprop((bigSep Finset.univ fun d : Fin 3 => dutyTok ER (barCell (peer d c)) 0 d)
    ∗ (bigSep Finset.univ fun t : Fin 32 => dutyTok ER (sendCell c t) 0 0)
    ∗ bigSep Finset.univ fun t : Fin 32 => dutyTok ER (recvCell (dst c t) t) 0 0)

/-- The records, a device's positions and its tokens, under some names of the invariants. -/
def ghost (c : Dev nD) : sProp 𝕄 :=
  iprop(∃ K, records (input m) K ∗ (bigSep Finset.univ fun k => atPos ER (kcell (c, k)) 0 ∅ 0) ∗ tokens (F := F) c)

/-- What a device's body starts from. -/
def start (c : Dev nD) : sProp 𝕄 :=
  iprop(ghost m c ∗ levAts L lv ∗ cred (tallyAt (barCell c) () 3) ∗ bigSep Finset.univ fun t : Fin 32 => cred (tallyAt (recvCell c t) () N))

/-- The two staging buffers at any contents. -/
def buffers (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- That is what the signals start from. -/
theorem start_during (c : Dev nD) (f : S4096x512.Idx → Elt F .bf16) :
    iprop(start m c ∗ buffers c ∗ (((c : Thread nD τ).loc cc0_stg0_0) ↦{fullShare} input m c) ∗ (((c : Thread nD τ).loc cc0_stg1_0) ↦{fullShare} f))
      ⊢ iprop(∃ K, during (input m) K c ∗ (pass c 0 ∗ pass c 1 ∗ pass c 2)) := by
  have hrx : (rxAt (F := F) c 0) = fun t => iprop(atPos ER (recvCell c t) 0 ∅ 0 ∗ cred (tallyAt (recvCell c t) () N)) := funext fun t => by
    unfold rxAt; exact if_pos (Nat.zero_le _)
  have hp : iprop(pass (F := F) c 0 ∗ pass c 1 ∗ pass c 2) = bigSep Finset.univ fun d : Fin 3 => pass c d := (bigSep_fin3 _).symm
  unfold start ghost tokens buffers during
  rw [hrx, hp]
  simp only [bigSep_cell, bigSep_xfer]
  iintro ⟨⟨⟨%K, Hrec, ⟨Hb, HaS, HaR⟩, HtB, HtS, HtR⟩, Hlev, HcB, HcR⟩, ⟨Ha, Hb'⟩, Hx, Hout⟩
  ihave H := (out_slots c f) $$ Hout
  icases H with ⟨Hh, Hs⟩
  iexists K
  isplitr [HtB Hs]
  · isplitl [Hrec]; · iexact Hrec
    isplitl [Hlev]; · iexact Hlev
    isplitl [Hb]; · iexact Hb
    isplitl [HcB]; · iexact HcB
    isplitl [HaS HtS HtR]
    · unfold toSend
      rw [bigSep_sep', bigSep_sep']
      isplitl [HtS]; · iexact HtS
      isplitl [HaS]; · iexact HaS
      iexact HtR
    isplitl [HaR HcR]
    · rw [bigSep_sep']
      isplitl [HaR] <;> iassumption
    isplitl [Hx]; · iexact Hx
    isplitl [Hh]; · iexists f; iexact Hh
    isplitl [Ha] <;> iassumption
  · unfold pass
    rw [bigSep_sep']
    isplitl [HtB]; · iexact HtB
    unfold slots
    rw [bigSep_dir]; iexact Hs

/-- What a device holds at the end beside the staged arrays. -/
def finish (c : Dev nD) : sProp 𝕄 := iprop((bigSep Finset.univ fun k => semVal (kcell (c, k)) 0) ∗ buffers (F := F) c)

def dats (_ : Fin 1) (c : Dev nD) : Dat τ (Elt F) Unit ℕ UU ℕ cfg0 c where
  A w := m ((cfg0.win w).arr.view.loc (c : Thread nD τ))
  after w _ := match w with
    | ⟨0, _⟩ => input m c
    | ⟨1, _⟩ => outC (input m) c
  Φ t := match t with
    | ⟨0, _⟩ => iprop(start m c ∗ buffers c)
    | ⟨_ + 1, _⟩ => finish c
  q _ := fullShare
  owed t := match t with
    | ⟨0, _⟩ => O₀ c
    | ⟨_ + 1, _⟩ => 0

theorem owns_all (c : Dev nD) (b : Ref sig .tc) (f : b.ty.Contents (Elt F)) :
    (owns (Ix := Unit) (Name := ℕ) (U := UU) (Lvl := ℕ) (c : Thread nD τ) (Memref.whole b) fullShare f : sProp 𝕄)
      = (((c : Thread nD τ).loc b) ↦{fullShare} f) := by
  exact owns_whole ..

theorem fetch0 (t : Fin cfg0.N) : (cfg0.win (0 : Fin 2)).fetch t = true := by rw [show t = t0_0 from fin_N0 t]; rfl

set_option maxRecDepth 8000 in
theorem body_obligation (c : Dev nD) : BodyObligation (dats (F := F) m 0 c) (defs₀ (F := F)) 𝒱₀ () Set.univ := fun t => by
  rw [show t = t0_0 from fin_N0 t, bigSep_W0, bigSep_W0]
  show iprop((start m c ∗ buffers c) ∗ (dats m 0 c).owesAt () t0_0.castSucc
      ∗ (∃ d, owns (c : Thread nD τ) (Memref.whole cc0_stg0_0) fullShare ((dats (F := F) m 0 c).before (0 : Fin 2) t0_0 d))
      ∗ (∃ d, owns (c : Thread nD τ) (Memref.whole cc0_stg1_0) fullShare ((dats (F := F) m 0 c).before (1 : Fin 2) t0_0 d)))
    ⊢ wp frame (wpE (defs₀ (F := F)) 𝒱₀ (c : Thread nD τ) none) Set.univ (atBufs (cc0_body (F := F))) fun _ =>
      iprop(finish c ∗ (dats (F := F) m 0 c).owesAt () t0_0.succ
        ∗ owns (c : Thread nD τ) (Memref.whole cc0_stg0_0) fullShare (input m c)
        ∗ owns (c : Thread nD τ) (Memref.whole cc0_stg1_0) fullShare (outC (input m) c))
  simp only [owns_all]
  unfold Dat.owesAt Pipeline.owesWithin
  iintro ⟨⟨Hst, Hbuf⟩, ⟨%W, %hW, HO⟩, ⟨%d, Hx⟩, ⟨%d', Hy⟩⟩
  have hx : (dats (F := F) m 0 c).before (0 : Fin 2) t0_0 d = input m c := by
    unfold Dat.before; rw [if_pos (fetch0 t0_0)]; rfl
  rw [hx]
  ihave H := (start_during m c _) $$ [Hst Hbuf Hx Hy]
  · isplitl [Hst]; · iexact Hst
    isplitl [Hbuf]; · iexact Hbuf
    isplitl [Hx]; · iexact Hx
    iexact Hy
  icases H with ⟨%K, Hd, Hp⟩
  iapply (wp_mono frame (wpE (defs₀ (F := F)) 𝒱₀ (c : Thread nD τ) none) Set.univ (p := atBufs (cc0_body (F := F))) (Q := fun _ => St (input m) K c total))
  rotate_left
  · iapply (body (X := input m) (K := K) (c := c) (W := W))
    isplitl [Hd]; · iexact Hd
    isplitl [Hp]; · iexact Hp
    iexact HO
  intro _
  refine (state_end (input m) K c).trans ?_
  unfold final finish buffers
  iintro ⟨Hv, ⟨Hx, Hy, Ha, Hb⟩, %W', HO⟩
  isplitl [Hv Ha Hb]
  · isplitl [Hv]; · iexact Hv
    isplitl [Ha] <;> iassumption
  isplitl [HO]
  · iexists W'
    isplitr; · ipureintro; exact fun _ _ => Or.inl trivial
    iexact HO
  isplitl [Hx] <;> iassumption

end Cert.AllGather

end
-- ==== Proof.Launch.lean ====
/-
# The launch

From a memory whose counters are all zero, the devices' protocol is set up: the cells and their tokens are made, the tokens
are dealt to the devices that pay with them, and what the devices owe each other at the start is matched by what they may
wait for. With the body's obligation this gives the run of the program.
-/
module

public import proofs.«01_k».proof.Proof.Region
public import Idealize.ShloMosaic.Lib.Quiescent
public import Idealize.ShloMosaic.Lib.Pipeline.CollectiveSegs

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Ring (bigSep_fin3)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem csem_inj : Function.Injective csem := by
  rintro (_ | i) (_ | j) h
  · rfl
  · exact nomatch h
  · exact nomatch h
  · rw [xferS_inj (SemLoc.dma.inj h)]

theorem kcell_inj : Function.Injective kcell := fun ⟨c, k⟩ ⟨c', k'⟩ h =>
  Prod.ext (congrArg (fun g : GSem nD τ sig => g.1.1) h) (csem_inj (congrArg Prod.snd h))

theorem ownSemFacts : Pipeline.OwnSemFacts cfg0.spec osem where
  isScoped := by decide +kernel
  inj := fun i j h => xferS_inj (SemLoc.dma.inj h)
  disj := by decide +kernel

/-- The tokens by the cell they belong to: the barrier's three, and one for each departure and arrival. -/
abbrev tok (ci : Dev nD × (Fin 3 ⊕ (Bool × Fin 32))) : GSem nD τ sig × ℕ × Fin 3 := match ci.2 with
  | .inl d => (barCell ci.1, 0, d)
  | .inr i => (kcell (ci.1, some i), 0, 0)

theorem tok_inj : Function.Injective tok := by
  rintro ⟨c, i⟩ ⟨c', i'⟩ h
  have hk : ∀ k k', kcell (c, k) = kcell (c', k') → c = c' ∧ k = k' := fun k k' h => Prod.mk.inj (kcell_inj h)
  rcases i with d | i <;> rcases i' with d' | i'
  · obtain ⟨rfl, -⟩ := hk none none (congrArg Prod.fst h)
    have hd : d = d' := congrArg (fun x : GSem nD τ sig × ℕ × Fin 3 => x.2.2) h
    rw [hd]
  · exact nomatch (hk none (some i') (congrArg Prod.fst h)).2
  · exact nomatch (hk (some i) none (congrArg Prod.fst h)).2
  · obtain ⟨rfl, e⟩ := hk (some i) (some i') (congrArg Prod.fst h)
    rw [Option.some.inj e]

def cellSet : Finset (GSem nD τ sig) := Finset.univ.map ⟨kcell, kcell_inj⟩
def tokSet : Finset (GSem nD τ sig × ℕ × Fin 3) := Finset.univ.map ⟨tok, tok_inj⟩

/-- The launch's ghost state: the staging's and the protocol's. -/
def u₀ : UU := (initOf (Pipeline.cells cfgs cellOf_inj) (Pipeline.launchToks cfgs cellOf_inj), initOf cellSet tokSet)

/-- The tokens of a device's own cells. -/
def minted (c : Dev nD) : sProp 𝕄 :=
  iprop((bigSep Finset.univ fun d : Fin 3 => dutyTok ER (barCell c) 0 d)
    ∗ (bigSep Finset.univ fun t : Fin 32 => dutyTok ER (sendCell c t) 0 0)
    ∗ bigSep Finset.univ fun t : Fin 32 => dutyTok ER (recvCell c t) 0 0)

/-- The positions of a device's own cells. -/
abbrev places (c : Dev nD) : sProp 𝕄 := bigSep Finset.univ fun k => atPos ER (kcell (c, k)) 0 ∅ 0

/-- What the ghost state gives a device. -/
def dealt (c : Dev nD) : sProp 𝕄 :=
  iprop((bigSep Finset.univ fun k => roundState ER (rd (input m)) (kcell (c, k)) 0)
    ∗ (bigSep Finset.univ fun k => reached ER (kcell (c, k)) 0) ∗ places c ∗ minted (F := F) c)

theorem fund_cells : BI.own (ER (initOf cellSet tokSet)) ⊢ (|==> bigSep Finset.univ (dealt m) : sProp 𝕄) := by
  have hc (Φ : GSem nD τ sig → sProp 𝕄) :
      bigSep cellSet Φ = bigSep Finset.univ fun c : Dev nD => bigSep Finset.univ fun k => Φ (kcell (c, k)) := by
    unfold cellSet; rw [bigSep_map, bigSep_univ_prod]; rfl
  have ht : bigSep tokSet (fun x => (dutyTok ER x.1 x.2.1 x.2.2 : sProp 𝕄)) = bigSep Finset.univ (minted (F := F)) := by
    unfold tokSet; rw [bigSep_map, bigSep_univ_prod]
    refine bigSep_congr fun c _ => ?_
    unfold minted
    rw [bigSep_univ_sum, bigSep_xfer]; rfl
  iintro H
  imod (Rounds.fund ER (rd (input m)) cellSet tokSet) $$ H with ⟨Hs, Hr, Ha, Ht⟩
  imodintro
  ihave Hs := (Entails.of_eq (hc fun g => roundState ER (rd (input m)) g 0)) $$ Hs
  ihave Hr := (Entails.of_eq (hc fun g => reached ER g 0)) $$ Hr
  ihave Ha := (Entails.of_eq (hc fun g => atPos ER g 0 ∅ 0)) $$ Ha
  ihave Ht := (Entails.of_eq ht) $$ Ht
  unfold dealt; simp only [bigSep_sep']
  isplitl [Hs]; · iexact Hs
  isplitl [Hr]; · iexact Hr
  isplitl [Ha] <;> iassumption

/-! ## Dealing the tokens -/

/-- Each device may take the `i`th of its items from another device, by a permutation of the devices for each `i`. -/
theorem around {I : Type} [Fintype I] (e : I → Dev nD ≃ Dev nD) (Φ : Dev nD → I → sProp 𝕄) :
    (bigSep Finset.univ fun c => bigSep Finset.univ fun i => Φ c i)
      = bigSep Finset.univ fun c => bigSep Finset.univ fun i => Φ (e i c) i := by
  rw [bigSep_univ_comm, bigSep_univ_comm (fun c i => Φ (e i c) i)]
  exact bigSep_congr fun i _ => bigSep_univ_equiv (e i) fun c => Φ c i

/-- The barriers' tokens and the arrivals' go to the partners that pay with them. -/
theorem minted_tokens : (bigSep Finset.univ (minted (F := F)) : sProp 𝕄) = bigSep Finset.univ (tokens (F := F)) := by
  unfold minted tokens
  simp only [bigSep_sep']
  rw [around swap (fun c d => (dutyTok ER (barCell c) 0 d : sProp 𝕄)),
    around (fun t => swap (dir t)) (fun c t => (dutyTok ER (recvCell c t) 0 0 : sProp 𝕄))]
  rfl

/-- The kernel's own counters and the barrier's, all at zero, are those of the cells. -/
theorem counters (c : Dev nD) :
    (bigSep Finset.univ fun k => semVal (kcell (c, k)) 0 : sProp 𝕄)
      = iprop(unscopedSems0 c ∗ Pipeline.ownSems0 (Ix := Unit) (Name := ℕ) (U := UU) (Lvl := ℕ) (Val := Elt F) (τ := τ) osem c) := by
  have hb : (unscopedSems0 c : sProp 𝕄) = semVal (barCell c) 0 := by
    unfold unscopedSems0; rw [bigSep_eq_bigSepL_of_eq [SemLoc.reg barS] (by decide) (by decide)]; rfl
  rw [hb, bigSep_cell]; rfl

theorem alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (rd (input m)) κ (kcell (c, k)) ∗ reached ER (kcell (c, k)) 0))
          ∗ places c ∗ minted (F := F) c) := by
  have hi : iprop((bigSep Finset.univ fun k => semVal (kcell (c, k)) 0)
        ∗ bigSep Finset.univ fun k => roundState ER (rd (input m)) (kcell (c, k)) 0)
      ⊢ (|={Set.univ}=> bigSep Finset.univ fun k => iprop(∃ κ : ℕ, cellInv ER (rd (input m)) κ (kcell (c, k))) : sProp 𝕄) := by
    rw [← bigSep_sep']
    exact (bigSep_mono fun k _ => (Rounds.body_intro ER (rd (input m)) (kcell (c, k))).trans inv_alloc).trans (bigSep_fupd _ _)
  have hr : iprop((bigSep Finset.univ fun k => iprop(∃ κ : ℕ, cellInv ER (rd (input m)) κ (kcell (c, k))))
        ∗ bigSep Finset.univ fun k => reached ER (kcell (c, k)) 0)
      ⊢ (bigSep Finset.univ fun k => iprop(∃ κ : ℕ, cellInv ER (rd (input m)) κ (kcell (c, k)) ∗ reached ER (kcell (c, k)) 0) : sProp 𝕄) := by
    rw [← bigSep_sep']
    refine bigSep_mono fun k _ => ?_
    show (_ : sProp 𝕄) ⊢ _
    iintro ⟨⟨%κ, HI⟩, HR⟩
    iexists κ
    isplitl [HI] <;> iassumption
  unfold dealt
  iintro ⟨Ho, Hu, Hs, Hr, Ha, Ht⟩
  ihave Hv := (Entails.of_eq (counters (F := F) c).symm) $$ [Ho Hu]
  · isplitl [Hu] <;> iassumption
  imod hi $$ [Hv Hs] with HI
  · isplitl [Hv] <;> iassumption
  imodintro
  isplitl [HI Hr]
  · iapply hr; isplitl [HI] <;> iassumption
  isplitl [Ha] <;> iassumption

/-- The devices agree on the names of the invariants, and each takes its tokens. -/
theorem regroup :
    (bigSep Finset.univ fun c : Dev nD => iprop((bigSep Finset.univ fun k => iprop(∃ κ : ℕ, cellInv ER (rd (input m)) κ (kcell (c, k)) ∗ reached ER (kcell (c, k)) 0))
        ∗ places c ∗ minted (F := F) c) : sProp 𝕄)
      ⊢ bigSep Finset.univ (ghost m) := by
  have hK (K : Dev nD × Option (Bool × Fin 32) → ℕ) :
      iprop(records (input m) K ∗ bigSep Finset.univ fun c => iprop(places c ∗ tokens (F := F) c)) ⊢ (bigSep Finset.univ (ghost m) : sProp 𝕄) := by
    refine (BI.sep_mono_l (bigSep_of_persistent (Finset.univ : Finset (Dev nD)) (records (input m) K))).trans ?_
    show iprop((bigSep Finset.univ fun _ : Dev nD => records (input m) K) ∗ bigSep Finset.univ fun c => iprop(places c ∗ tokens (F := F) c)) ⊢ (_ : sProp 𝕄)
    rw [← bigSep_sep']
    refine bigSep_mono fun c _ => ?_
    show (_ : sProp 𝕄) ⊢ _
    unfold ghost
    iintro H
    iexists K; iexact H
  rw [bigSep_sep', bigSep_sep', minted_tokens,
    ← bigSep_univ_prod (fun ck : Dev nD × Option (Bool × Fin 32) => iprop(∃ κ : ℕ, cellInv ER (rd (input m)) κ (kcell ck) ∗ reached ER (kcell ck) 0))]
  iintro ⟨HI, Ha, Ht⟩
  ihave H := (BI.bigSep_exists_pi Finset.univ fun (ck : Dev nD × Option (Bool × Fin 32)) (κ : ℕ) =>
    (iprop(cellInv ER (rd (input m)) κ (kcell ck) ∗ reached ER (kcell ck) 0) : sProp 𝕄)) $$ HI
  icases H with ⟨%K, HI⟩
  iapply (hK K)
  isplitl [HI]; · unfold records; iexact HI
  rw [bigSep_sep']
  isplitl [Ha] <;> iassumption

theorem glob :
    (bigSep Finset.univ fun c => iprop(Pipeline.ownSems0 (Ix := Unit) (Name := ℕ) (U := UU) (Lvl := ℕ) (Val := Elt F) (τ := τ) osem c ∗ unscopedSems0 c ∗ dealt m c) : sProp 𝕄)
      ⊢ |={Set.univ}=> bigSep Finset.univ (ghost m) :=
  ((bigSep_mono fun c _ => alloc m c).trans (bigSep_fupd _ _)).trans (BI.fupd_mono (regroup m))

/-! ## What the devices owe each other at the start -/

theorem owed_bar (d c : Dev nD) : O₀ d (barCell c) () = ∑ i : Fin 3, if d = peer i c then 1 else 0 := by
  have h0 : owedAt d 0 (barCell c) () = 0 := by
    by_contra h
    obtain ⟨t, _, e⟩ := owedAt_pos (Nat.pos_of_ne_zero h)
    exact nomatch (Prod.mk.inj (kcell_inj (a₁ := (c, none)) (a₂ := (dst d t, some (true, t))) e)).2
  have h1 (i : Fin 3) : tallyAt (barCell (peer i d)) () 1 (barCell c) () = if d = peer i c then 1 else 0 := by
    rw [tallyAt_apply]
    refine if_congr ⟨fun h => ?_, fun h => ⟨by rw [h, peer_peer], rfl⟩⟩ rfl rfl
    have e := (Prod.mk.inj (kcell_inj (a₁ := (c, none)) (a₂ := (peer i d, none)) h.1)).1
    rw [e, peer_peer]
  rw [Fin.sum_univ_three, ← h1 0, ← h1 1, ← h1 2]
  unfold O₀
  simp only [Pi.add_apply, Finsupp.add_apply]
  rw [h0]
  show 0 + tallyAt (barCell (peer 2 d)) () 1 (barCell c) () + tallyAt (barCell (peer 1 d)) () 1 (barCell c) ()
    + tallyAt (barCell (peer 0 d)) () 1 (barCell c) () = _
  omega

theorem owed_recv (d c : Dev nD) (t : Fin 32) : O₀ d (recvCell c t) () = if d = dst c t then N else 0 := by
  have hb (c' : Dev nD) : tallyAt (barCell c') () 1 (recvCell c t) () = 0 := by
    rw [tallyAt_apply, if_neg]
    exact fun h => nomatch (Prod.mk.inj (kcell_inj (a₁ := (c, some (true, t))) (a₂ := (c', none)) h.1)).2
  unfold O₀
  simp only [Pi.add_apply, Finsupp.add_apply]
  rw [hb, hb, hb]
  unfold owedAt
  rw [Finset.sum_apply, Finsupp.finset_sum_apply, Finset.sum_eq_single t]
  · rw [tallyAt_apply]
    refine if_congr ⟨fun h => ?_, fun h => ⟨by rw [h, dst_dst], rfl⟩⟩ rfl rfl
    have e := (Prod.mk.inj (kcell_inj (a₁ := (c, some (true, t))) (a₂ := (dst d t, some (true, t))) h.1)).1
    rw [e, dst_dst]
  · intro t' _ hn
    rw [tallyAt_apply, if_neg]
    intro h
    have e := (Prod.mk.inj (kcell_inj (a₁ := (c, some (true, t))) (a₂ := (dst d t', some (true, t'))) h.1)).2
    exact hn (Prod.mk.inj (Option.some.inj e)).2.symm
  · exact fun h => absurd (Finset.mem_filter.mpr ⟨Finset.mem_univ t, Nat.zero_le (sendT t)⟩) h

/-- A cell owed `k` in all may be waited on for `k`. -/
theorem launch_cell (g : GSem nD τ sig) (k : ℕ) (h : ∑ d, O₀ d g () = k) :
    tallyOn g (launchCredit (Pipeline.owing O₀) 0 g) = (tallyAt g () k : CellTallies nD τ sig Unit) := by
  unfold tallyAt
  refine congrArg _ (Finsupp.ext fun u => ?_)
  cases u
  rw [Pipeline.launchCredit_owing, Finsupp.single_eq_same, h]

theorem launch_bar (c : Dev nD) :
    tallyOn (barCell c) (launchCredit (Pipeline.owing O₀) 0 (barCell c)) = (tallyAt (barCell c) () 3 : CellTallies nD τ sig Unit) :=
  launch_cell _ _ (by
    simp only [owed_bar]
    rw [Finset.sum_comm, Finset.sum_congr rfl fun i _ => Finset.sum_ite_eq' Finset.univ (peer i c) fun _ => 1]
    simp only [Finset.mem_univ, if_true]; rfl)

theorem launch_recv (c : Dev nD) (t : Fin 32) :
    tallyOn (recvCell c t) (launchCredit (Pipeline.owing O₀) 0 (recvCell c t)) = (tallyAt (recvCell c t) () N : CellTallies nD τ sig Unit) :=
  launch_cell _ _ (by
    simp only [owed_recv]
    rw [Finset.sum_ite_eq' Finset.univ (dst c t) fun _ => N, if_pos (Finset.mem_univ _)])

/-- The semaphores of the arrivals. -/
def arrS : Fin 32 ↪ SemLoc sig := ⟨fun t => .dma (xferS (true, t)), fun t t' h => (Prod.mk.inj (xferS_inj (SemLoc.dma.inj h))).2⟩

theorem creds (c : Dev nD) :
    (Pipeline.launchCred O₀ c : sProp 𝕄) ⊢ iprop(cred (tallyAt (barCell c) () 3) ∗ bigSep Finset.univ fun t : Fin 32 => cred (tallyAt (recvCell c t) () N)) := by
  have hs : Finset.univ.map arrS ⊆ Finset.univ.erase (SemLoc.reg barS) := fun s hs => by
    obtain ⟨t, _, rfl⟩ := Finset.mem_map.mp hs
    exact Finset.mem_erase.mpr ⟨fun h => (nomatch h), Finset.mem_univ _⟩
  unfold Pipeline.launchCred
  rw [bigSep_univ_at _ (SemLoc.reg barS), launch_bar]
  refine BI.sep_mono_r ((bigSep_subset hs).trans ?_)
  rw [bigSep_map]
  exact bigSep_mono fun t _ => Entails.of_eq (congrArg cred (launch_recv c t))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hl, Hc, -, HG⟩
  ihave Hc := (creds (F := F) c) $$ Hc
  imodintro
  unfold start
  isplitl
  · isplitl [HG]; · iexact HG
    isplitl [Hl] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ buffers c) from rfl, scopedRest0_eq]
  iintro ⟨Hs, -, Hb⟩
  isplitl [Hs]; · iexact Hs
  unfold buffers; iexact Hb

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = finish c from rfl, scopedRest0_eq]
  unfold finish buffers
  rw [counters]
  iintro ⟨⟨Hu, Ho⟩, Hb⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m 0 c).share w = fullShare := by unfold Dat.share; split <;> rfl

set_option maxRecDepth 8000 in
/-- From any memory with zero counters, under any scheduling, the program ends; then every array of every device is as the
    kernel leaves it and every counter is zero. -/
theorem run_main : θ_run defs (onTc (τ := τ) (main (F := F))) ⟨m, fun _ => 0, ρ⟩ (fun r =>
    (∀ (c : Dev nD) (w : Fin cfg0.W), r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := dealt m) (G' := ghost m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllGather

end
-- ==== Proof.Value.lean ====
/-
# What the run leaves

The arrays a run of the program leaves in the devices' memories, and the result as the whole array of which each device's
input is a half.
-/
module

public import proofs.«01_k».proof.Proof.Launch
public import Idealize.ShloMosaic.Lib.Layout

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Ring (bigSep_fin3)

variable {F : FTy → Type} [FloatOps F]

local notation "𝕄" => MT nD τ sig Unit (Elt F) ℕ UU ℕ

variable (m : (ℓ : Loc nD τ sig) → Buf (Elt F) ℓ) (ρ : Dev nD → PrngReg)

/-- Both windows are whole arrays: their one block starts at the origin. -/
theorem blk_in (f : S2048x512.Idx → Elt F .bf16) : (win0_0.blk (0 : Fin 1)).view.read (Elt F) f = f :=
  Memref.read_access_unit_zero (Elt F) main_arg0 (funext fun a => by fin_cases a <;> rfl) _ f
theorem blk_out (f : S4096x512.Idx → Elt F .bf16) : (win0_1.blk t0_0).view.read (Elt F) f = f :=
  Memref.read_access_unit_zero (Elt F) main_v1 (funext fun a => by fin_cases a <;> rfl) _ f

theorem input_eq (c : Dev nD) : input m c = m ((c : Thread nD τ).loc main_arg0) := blk_in _

theorem final_arg (c : Dev nD) : (dats m 0 c).arrAt (0 : Fin 2) cfg0.N = m ((c : Thread nD τ).loc main_arg0) :=
  (dats m 0 c).arrAt_in (0 : Fin 2) rfl _

theorem final_result (c : Dev nD) : (dats m 0 c).arrAt (1 : Fin 2) cfg0.N = outC (input m) c := by
  refine (dats m 0 c).arrAt_eq_of_cover (1 : Fin 2) (outC (input m) c) (fun t _ => ?_) fun i => ⟨t0_0, ?_, ?_⟩
  · rw [show t = t0_0 from fin_N0 t]
    refine Eq.trans ?_ (blk_out (outC (input m) c)).symm
    rfl
  · decide
  · show i ∈ ((View.whole main_v1).slice (win0_1.rect t0_0)).set
    rw [View.set_slice_whole]
    exact View.mem_set_unit_zero (S := S4096x512) (funext fun a => by fin_cases a <;> rfl) _ i

/-- Every run ends, with the inputs unchanged, the results as computed and the counters at zero. -/
theorem run : θ_run defs (onTc (τ := τ) (main (F := F))) ⟨m, fun _ => 0, ρ⟩ (fun r =>
    (∀ c : Dev nD, r.2.mem ((c : Thread nD τ).loc main_v1) = outC (input m) c
      ∧ r.2.mem ((c : Thread nD τ).loc main_arg0) = m ((c : Thread nD τ).loc main_arg0)) ∧ r.2.sem = fun _ => 0) :=
  (θ_run defs _ _).mono (fun _ h => ⟨fun c => ⟨(h.1 c 1).trans (final_result m c), (h.1 c 0).trans (final_arg m c)⟩, h.2⟩) (run_main m ρ)

theorem frame : θ_run defs (onTc (τ := τ) (main (F := F))) ⟨m, fun _ => 0, ρ⟩ (fun r =>
    (∀ c : Dev nD, r.2.mem ((c : Thread nD τ).loc main_arg0) = m ((c : Thread nD τ).loc main_arg0)) ∧ r.2.sem = fun _ => 0) :=
  (θ_run defs _ _).mono (fun _ h => ⟨fun c => (h.1 c).2, h.2⟩) (run m ρ)

/-- The block of the whole array that a device's input is, is the half of its x. -/
theorem half_of (c : Dev nD) : ((Layout.meshBlock [2, 2, 4] ![[0], []] c) 0).val = c.val / 8 := by revert c; decide +kernel

/-- When the inputs are the halves of `w`, every device's result is `w`: the chunk at each place came from a device that
    holds the half it lies in. -/
theorem result_eq (w : S4096x512.Idx → Elt F .bf16)
    (hw : ∀ c : Dev nD, m ((c : Thread nD τ).loc main_arg0)
      = Layout.blockN ⟨2, ![2048, 512]⟩ ⟨2, ![4096, 512]⟩ (Layout.meshBlock [2, 2, 4] ![[0], []] c) w) (c : Dev nD) :
    outC (input m) c = w := by
  funext i
  have hi : (i 0).val < 4096 := (i 0).isLt
  unfold outC
  rw [input_eq, hw, Layout.blockN_apply]
  congr 1
  funext a
  fin_cases a
  · refine Fin.ext ?_
    rw [Layout.TilesN.idx_val]
    have h1 := half_of (origin c ((i 0).val / 64))
    have h2 := origin_half c ⟨(i 0).val / 64, by omega⟩
    show ((Layout.meshBlock [2, 2, 4] ![[0], []] (origin c ((i 0).val / 64))) 0).val * 2048 + (i 0).val % 2048 = (i 0).val
    rw [h1, h2]
    show (i 0).val / 64 / 32 * 2048 + (i 0).val % 2048 = (i 0).val
    omega
  · refine Fin.ext ?_
    rw [Layout.TilesN.idx_val]
    show 0 * 512 + (i 1).val = (i 1).val
    omega

end Cert.AllGather

end
-- ==== Proof.Reference.lean ====
/-
# The reference's run

The reference is given the whole array and returns it: its program has no operation. It ends with its memory as it was.
-/
module

public import proofs.«01_k».proof.Proof.Gen.ReferenceIdeal
public import Idealize.ShloMosaic.Lib.Pipeline.Regions
public import Idealize.ShloMosaic.Lib.Pipeline.Frame
public import Idealize.ShloMosaic.Lib.Pipeline.Kit
public import Idealize.ShloMosaic.Lib.Quiescent
public import Idealize.ShloMosaic.Lib.Tactic

@[expose] public section

noncomputable section

namespace Cert.Whole

open Cert.ReferenceIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The library's state for a launch's kernels (there is none), and a part that holds nothing. -/
abbrev UU : Type := UR sig nD τ × UR sig nD τ

local notation "𝕄" => MT nD τ sig Unit (Elt F) ℕ UU ℕ

abbrev EP : Emb (UR sig nD τ) (MT nD τ sig Unit (Elt F) ℕ UU ℕ) := embL

variable (m : (ℓ : Loc nD τ sig) → Buf (Elt F) ℓ) (ρ : Dev nD → PrngReg)

abbrev adm : (p : Fin 0) → (pcfgs (F := F) p).Adm := fun p => p.elim0
def dats : (p : Fin 0) → (c : Dev nD) → Pipeline.Dat τ (Elt F) Unit ℕ UU ℕ (Pipeline.pin (pcfgs (F := F)) adm p) c := fun p => p.elim0

/-- What a device holds before and after: its array, unchanged. -/
abbrev held (c : Dev nD) : sProp 𝕄 := StableHlo.held (c : Thread nD τ) (Pipeline.ucRefs τ sig) (fun b => m ((c : Dev nD), b))

theorem cells_inj : Function.Injective (Pipeline.cellOf (nD := nD) (τ := τ) (Pipeline.pin (pcfgs (F := F)) adm)) := by
  rintro ⟨p, _⟩
  exact p.elim0

theorem mem_held (c : Dev nD) : (c : Thread nD τ).2.devRef main_arg0 ∈ Pipeline.ucRefs τ sig := by revert c; decide

/-- What the launch deals a device. -/
abbrev dealt (c : Dev nD) : sProp 𝕄 :=
  iprop(unscopedBufs c (fun b => m ((c : Thread nD τ).loc b)) ∗ unscopedSems0 c
    ∗ owes (c : Thread nD τ) ((0 : Dev nD → CellTallies nD τ sig Unit) c) ∅
    ∗ Pipeline.launchCred (0 : Dev nD → CellTallies nD τ sig Unit) c ∗ prngReg c (ρ c) ∗ emp)

/-- What it keeps of it. -/
abbrev before (c : Dev nD) : sProp 𝕄 := iprop(held m c ∗ ∃ W, owes (c : Thread nD τ) (0 : CellTallies nD τ sig Unit) W)

theorem begins (c : Dev nD) : dealt m ρ c ⊢ before m c := by
  unfold dealt
  rw [show (unscopedBufs c fun b => m ((c : Thread nD τ).loc b) : sProp 𝕄) = held m c from
    Pipeline.unscopedBufs_held c fun b => m ((c : Dev nD), b)]
  iintro ⟨Hb, -, HO, -⟩
  isplitl [Hb]; · iexact Hb
  iexists _; iexact HO

theorem begins_all : (bigSep Finset.univ fun c : Dev nD => dealt m ρ c) ⊢ bigSep Finset.univ fun c : Dev nD => before m c :=
  bigSep_mono fun c _ => begins m ρ c

theorem nothing : ⊢ (bigSep Finset.univ fun _ : Dev nD => iprop(emp) : sProp 𝕄) := by
  iapply (Entails.of_eq (bigSep_emp_const (M := 𝕄) (Finset.univ : Finset (Dev nD))).symm)
  iempintro

set_option backward.isDefEq.respectTransparency.types false in
set_option maxRecDepth 1024 in
/-- From any memory with zero counters the reference ends, its array unchanged and every counter zero. -/
theorem run : θ_run defs (onTc (τ := τ) (main (F := F))) ⟨m, fun _ => 0, ρ⟩ (fun r =>
    (∀ c : Dev nD, r.2.mem ((c : Thread nD τ).loc main_arg0) = m ((c : Thread nD τ).loc main_arg0)) ∧ r.2.sem = fun _ => 0) :=
  Pipeline.θ_run_regions_kit_sems (pcfgs (F := F)) adm dats () cells_inj EP defs₀ Variants.none (fun _ => ∅) (fun _ _ => 0) m ρ main []
    (fun _ _ => .rfl) List.nodup_nil
    (O₀ := 0) (hL := fun _ _ => rfl) (G := fun _ => iprop(emp))
    (u₀ := (initOf (Pipeline.cells (Pipeline.pin (pcfgs (F := F)) adm) cells_inj) (Pipeline.launchToks (Pipeline.pin (pcfgs (F := F)) adm) cells_inj), 1))
    (hu₀ := by
      iintro Hu
      ihave H := (ownU_pair _ _) $$ Hu
      icases H with ⟨HP, -⟩
      imodintro
      isplitl [HP]; · iexact HP
      iapply nothing)
    (T₀ := before m) (Tₙ := held m)
    (hch := fun _ => .rfl)
    (hinit := by
      iintro ⟨H, -⟩
      imodintro
      iapply (begins_all m ρ) $$ H)
    (QY := fun c s => s.mem ((c : Thread nD τ).loc main_arg0) = m ((c : Thread nD τ).loc main_arg0))
    (hfin := fun c s' => by
      unfold held StableHlo.held
      iintro ⟨Hh, HSI⟩
      ihave %h := (SI_pointsTo_bufs_agree (qs := fun _ => fullShare) (Pipeline.ucRefs τ sig)) $$ [HSI Hh]
      · isplitl [HSI] <;> iassumption
      imodintro
      isplitr; · ipureintro; exact h _ (mem_held c)
      iexact HSI)
    (hQ := fun s h _ => ⟨h, sem_eq_zero_of_no_sems (by decide) s⟩)

end Cert.Whole

end
-- ==== Proof.lean ====
/-
# The claims

The kernel gathers, over the x axis of the mesh, the halves of an array that the devices hold. Its run is proved once, for
any reading of the floats (Proof/Launch.lean, Proof/Value.lean); the claims are read off it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem

set_option smartUnfolding false in
/-- The program as printed and its idealization are one text, run at two readings of the floats. -/
theorem frame_kernel : Cert.quiescent_Kernel := fun m ρ _ => Cert.AllGather.frame (F := Bits) m ρ

theorem frame_ideal : Cert.quiescent_KernelIdeal := fun m ρ _ => Cert.AllGather.frame m ρ

theorem frame_reference : Cert.quiescent_ReferenceIdeal := fun m ρ _ => Cert.Whole.run m ρ

theorem algebraic : Cert.algebraic_KernelIdeal_ReferenceIdeal := fun m ρ m' ρ' _ hw =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c).1.trans (Cert.AllGather.result_eq m _ hw c), (h.1 c).2⟩)
      (Cert.AllGather.run m ρ),
    (θ_run Cert.ReferenceIdeal.defs _ _).mono (fun _ h => ⟨h.1 0, h.1 0⟩) (Cert.Whole.run m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
